-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![1024, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 16]⟩ (Layout.meshBlock [2, 2, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![16, 1024, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![16, 2048, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 1024]⟩ ⟨2, ![1024, 1024]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S256x1024 : S_.BroadcastsInDim S256x1024 (![] : Fin 0 → Fin S256x1024.rank)
  bcast_S_S1024x4 : S_.BroadcastsInDim S1024x4 (![] : Fin 0 → Fin S1024x4.rank)

variable [Facts]

def fn {F : FTy → Type} [FloatOps F] (main_arg0 : FVec F S256x1024 .f32) (main_arg1 : FVec F S1024x4 .f32) (main_arg2 : FVec F S4x1024x2048 .f32) (main_arg3 : FVec F S4x2048x1024 .f32) : IVec S256x1024 1 × IVec S1024x4 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x4 .f32 := Host.absf main_arg1
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  (main_v2, main_v5)
-- ==== Pre_tame_ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S1024x1024 : S_.BroadcastsInDim S1024x1024 (![] : Fin 0 → Fin S1024x1024.rank)
  bcast_S_S1024x16 : S_.BroadcastsInDim S1024x16 (![] : Fin 0 → Fin S1024x16.rank)

variable [Facts]

def fn {F : FTy → Type} [FloatOps F] (main_arg0 : FVec F S1024x1024 .f32) (main_arg1 : FVec F S1024x16 .f32) (main_arg2 : FVec F S16x1024x2048 .f32) (main_arg3 : FVec F S16x2048x1024 .f32) : IVec S1024x1024 1 × IVec S1024x16 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x16 .f32 := Host.absf main_arg1
  let main_cst_0 : FVec F S_ .f32 := constant S_ .f32 0x7F800000#32
  let main_v4 : FVec F S1024x16 .f32 := broadcastInDim S1024x16 ![] bcast_S_S1024x16 main_cst_0
  let main_v5 : IVec S1024x16 1 := cmpf .olt main_v3 main_v4
  (main_v2, main_v5)
-- ==== Kernel.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S4x1024x4 : Shape := ⟨3, ![4, 1024, 4]⟩
abbrev S2x1024x1024 : Shape := ⟨3, ![2, 1024, 1024]⟩
abbrev S4 : Shape := ⟨1, ![4]⟩
abbrev S_ : Shape := ⟨0, ![]⟩
abbrev S2 : Shape := ⟨1, ![2]⟩
abbrev S1x1024x4 : Shape := ⟨3, ![1, 1024, 4]⟩
abbrev S1 : Shape := ⟨1, ![1]⟩
abbrev S1x1024x1024 : Shape := ⟨3, ![1, 1024, 1024]⟩
abbrev S1024x1024 : Shape := ⟨2, ![1024, 1024]⟩
abbrev S1024x16 : Shape := ⟨2, ![1024, 16]⟩
abbrev S256x16 : Shape := ⟨2, ![256, 16]⟩
abbrev S256 : Shape := ⟨1, ![256]⟩
abbrev S256x1 : Shape := ⟨2, ![256, 1]⟩
abbrev S1x1024x2048 : Shape := ⟨3, ![1, 1024, 2048]⟩
abbrev S1024x2048 : Shape := ⟨2, ![1024, 2048]⟩
abbrev S256x2048 : Shape := ⟨2, ![256, 2048]⟩
abbrev S1x2048x1024 : Shape := ⟨3, ![1, 2048, 1024]⟩
abbrev S2048x1024 : Shape := ⟨2, ![2048, 1024]⟩

abbrev nBuf : Space → Nat
  | .hbm => 5
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S256x1024, .f32⟩
  | .local _ .vmem, ⟨0, _⟩ => ⟨S256x1024, .f32⟩
  | .local _ .vmem, ⟨1, _⟩ => ⟨S1024x4, .f32⟩
  | .local _ .vmem, ⟨2, _⟩ => ⟨S256x1024, .f32⟩
  | .local _ .vmem, ⟨3, _⟩ => ⟨S4x1024x4, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S2x1024x1024, .f32⟩
  | .local _ .vmem, ⟨11, _⟩ => ⟨S4x1024x2048, .bf16⟩
  | .local _ .vmem, ⟨12, _⟩ => ⟨S4x2048x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => true
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 2 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v25 : BitVec 32 := Scalar.muli v2 c8_i32_14
  let v26 : BitVec 32 := Scalar.addi c0_i32 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v27 : BitVec 32 := Scalar.muli v5 c4_i32_15
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v19 : BitVec 32 := Scalar.addi v8 c1_i32_8
  let c4_i32_9 : BitVec 32 := 4#32
  let v20 : BitVec 32 := Scalar.remsi v19 c4_i32_9
  let c1_i32_16 : BitVec 32 := 1#32
  let v29 : BitVec 32 := Scalar.muli v20 c1_i32_16
  let v30 : BitVec 32 := Scalar.addi v28 v29
  v30.toNat
def k0_dev2 (d0 : Dev nD) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v31 : BitVec 32 := Scalar.muli v2 c8_i32_18
  let v32 : BitVec 32 := Scalar.addi c0_i32_19 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v33 : BitVec 32 := Scalar.muli v5 c4_i32_20
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v21 : BitVec 32 := Scalar.addi v8 c2_i32_10
  let c4_i32_11 : BitVec 32 := 4#32
  let v22 : BitVec 32 := Scalar.remsi v21 c4_i32_11
  let c1_i32_21 : BitVec 32 := 1#32
  let v35 : BitVec 32 := Scalar.muli v22 c1_i32_21
  let v36 : BitVec 32 := Scalar.addi v34 v35
  v36.toNat
def k0_dev3 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v37 : BitVec 32 := Scalar.muli v2 c8_i32_23
  let v38 : BitVec 32 := Scalar.addi c0_i32_24 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_25 : BitVec 32 := 4#32
  let v39 : BitVec 32 := Scalar.muli v5 c4_i32_25
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.addi v8 c3_i32
  let c4_i32_12 : BitVec 32 := 4#32
  let v24 : BitVec 32 := Scalar.remsi v23 c4_i32_12
  let c1_i32_26 : BitVec 32 := 1#32
  let v41 : BitVec 32 := Scalar.muli v24 c1_i32_26
  let v42 : BitVec 32 := Scalar.addi v40 v41
  v42.toNat
def k0_dev4 (d0 : Dev nD) : Nat :=
  let c0_i32_29 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_6 v2
  let c8_i32_28 : BitVec 32 := 8#32
  let v43 : BitVec 32 := Scalar.muli v16 c8_i32_28
  let v44 : BitVec 32 := Scalar.addi c0_i32_29 v43
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v45 : BitVec 32 := Scalar.muli v5 c4_i32_30
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v47 : BitVec 32 := Scalar.muli v8 c1_i32_31
  let v48 : BitVec 32 := Scalar.addi v46 v47
  v48.toNat
def k0_dev5 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v49 : BitVec 32 := Scalar.muli v2 c8_i32_33
  let v50 : BitVec 32 := Scalar.addi c0_i32_34 v49
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_7 v5
  let c4_i32_35 : BitVec 32 := 4#32
  let v51 : BitVec 32 := Scalar.muli v17 c4_i32_35
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v53 : BitVec 32 := Scalar.muli v8 c1_i32_36
  let v54 : BitVec 32 := Scalar.addi v52 v53
  v54.toNat
def k0_dev6 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v62 : BitVec 32 := Scalar.muli v2 c8_i32_47
  let v63 : BitVec 32 := Scalar.addi c0_i32_48 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v64 : BitVec 32 := Scalar.muli v5 c4_i32_49
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v60 : BitVec 32 := Scalar.addi v8 c1_i32_41
  let c4_i32_42 : BitVec 32 := 4#32
  let v61 : BitVec 32 := Scalar.remsi v60 c4_i32_42
  let c1_i32_50 : BitVec 32 := 1#32
  let v66 : BitVec 32 := Scalar.muli v61 c1_i32_50
  let v67 : BitVec 32 := Scalar.addi v65 v66
  v67.toNat
def k0_dev7 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v78 : BitVec 32 := Scalar.muli v2 c8_i32_61
  let v79 : BitVec 32 := Scalar.addi c0_i32_62 v78
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v80 : BitVec 32 := Scalar.muli v5 c4_i32_63
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_55 : BitVec 32 := 2#32
  let v76 : BitVec 32 := Scalar.addi v8 c2_i32_55
  let c4_i32_56 : BitVec 32 := 4#32
  let v77 : BitVec 32 := Scalar.remsi v76 c4_i32_56
  let c1_i32_64 : BitVec 32 := 1#32
  let v82 : BitVec 32 := Scalar.muli v77 c1_i32_64
  let v83 : BitVec 32 := Scalar.addi v81 v82
  v83.toNat
def k0_dev8 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_75 : BitVec 32 := 8#32
  let v94 : BitVec 32 := Scalar.muli v2 c8_i32_75
  let v95 : BitVec 32 := Scalar.addi c0_i32_76 v94
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_77 : BitVec 32 := 4#32
  let v96 : BitVec 32 := Scalar.muli v5 c4_i32_77
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_69 : BitVec 32 := 3#32
  let v92 : BitVec 32 := Scalar.addi v8 c3_i32_69
  let c4_i32_70 : BitVec 32 := 4#32
  let v93 : BitVec 32 := Scalar.remsi v92 c4_i32_70
  let c1_i32_78 : BitVec 32 := 1#32
  let v98 : BitVec 32 := Scalar.muli v93 c1_i32_78
  let v99 : BitVec 32 := Scalar.addi v97 v98
  v99.toNat
def k0_cond1 (d0 : Dev nD) : BitVec 1 :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_83 : BitVec 32 := 0#32
  let v108 : BitVec 1 := Scalar.cmpi .ne v10 c0_i32_83
  let v109 : BitVec 32 := Scalar.extui v108
  let c0_i32_84 : BitVec 32 := 0#32
  let v110 : BitVec 1 := Scalar.cmpi .ne v109 c0_i32_84
  v110

def k0_dev9 (d0 : Dev nD) : Nat :=
  let c0_i32_596 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_595 : BitVec 32 := 8#32
  let v661 : BitVec 32 := Scalar.muli v2 c8_i32_595
  let v662 : BitVec 32 := Scalar.addi c0_i32_596 v661
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_597 : BitVec 32 := 4#32
  let v663 : BitVec 32 := Scalar.muli v5 c4_i32_597
  let v664 : BitVec 32 := Scalar.addi v662 v663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let c2_i32_2 : BitVec 32 := 2#32
  let v9 : BitVec 32 := Scalar.muli c2_i32_2 v2
  let v10 : BitVec 32 := Scalar.addi v9 v5
  let v13 : BitVec 32 := Scalar.subi c4_i32_4 v10
  let v14 : BitVec 32 := Scalar.addi v8 v13
  let c4_i32_5 : BitVec 32 := 4#32
  let v15 : BitVec 32 := Scalar.remsi v14 c4_i32_5
  let c1_i32_598 : BitVec 32 := 1#32
  let v665 : BitVec 32 := Scalar.muli v15 c1_i32_598
  let v666 : BitVec 32 := Scalar.addi v664 v665
  v666.toNat
def k0_cond4 (d0 : Dev nD) : BitVec 1 :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_524 : BitVec 32 := 0#32
  let v585 : BitVec 1 := Scalar.cmpi .ne v10 c0_i32_524
  let v586 : BitVec 32 := Scalar.extui v585
  let c0_i32_525 : BitVec 32 := 0#32
  let v587 : BitVec 1 := Scalar.cmpi .ne v586 c0_i32_525
  v587

def k0_dev10 (d0 : Dev nD) : Nat :=
  let c0_i32_596 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_595 : BitVec 32 := 8#32
  let v661 : BitVec 32 := Scalar.muli v2 c8_i32_595
  let v662 : BitVec 32 := Scalar.addi c0_i32_596 v661
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_597 : BitVec 32 := 4#32
  let v663 : BitVec 32 := Scalar.muli v5 c4_i32_597
  let v664 : BitVec 32 := Scalar.addi v662 v663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.muli c2_i32_2 v2
  let v10 : BitVec 32 := Scalar.addi v9 v5
  let v11 : BitVec 32 := Scalar.addi v8 v10
  let c4_i32_3 : BitVec 32 := 4#32
  let v12 : BitVec 32 := Scalar.remsi v11 c4_i32_3
  let c1_i32_598 : BitVec 32 := 1#32
  let v665 : BitVec 32 := Scalar.muli v12 c1_i32_598
  let v666 : BitVec 32 := Scalar.addi v664 v665
  v666.toNat
def k0_dev11 (d0 : Dev nD) : Nat :=
  let c0_i32_531 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_6 v2
  let c8_i32_530 : BitVec 32 := 8#32
  let v594 : BitVec 32 := Scalar.muli v16 c8_i32_530
  let v595 : BitVec 32 := Scalar.addi c0_i32_531 v594
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_532 : BitVec 32 := 4#32
  let v596 : BitVec 32 := Scalar.muli v5 c4_i32_532
  let v597 : BitVec 32 := Scalar.addi v595 v596
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_533 : BitVec 32 := 1#32
  let v598 : BitVec 32 := Scalar.muli v8 c1_i32_533
  let v599 : BitVec 32 := Scalar.addi v597 v598
  v599.toNat
def k0_dev12 (d0 : Dev nD) : Nat :=
  let c0_i32_545 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_544 : BitVec 32 := 8#32
  let v615 : BitVec 32 := Scalar.muli v2 c8_i32_544
  let v616 : BitVec 32 := Scalar.addi c0_i32_545 v615
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_7 v5
  let c4_i32_546 : BitVec 32 := 4#32
  let v617 : BitVec 32 := Scalar.muli v17 c4_i32_546
  let v618 : BitVec 32 := Scalar.addi v616 v617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v619 : BitVec 32 := Scalar.muli v8 c1_i32_547
  let v620 : BitVec 32 := Scalar.addi v618 v619
  v620.toNat
def k0_dev13 (d0 : Dev nD) : Nat :=
  let c0_i32_603_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_602_r0 : BitVec 32 := 8#32
  let v668_r0 : BitVec 32 := Scalar.muli v2 c8_i32_602_r0
  let v669_r0 : BitVec 32 := Scalar.addi c0_i32_603_r0 v668_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_604_r0 : BitVec 32 := 4#32
  let v670_r0 : BitVec 32 := Scalar.muli v5 c4_i32_604_r0
  let v671_r0 : BitVec 32 := Scalar.addi v669_r0 v670_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_595_r0 : BitVec 32 := 1#32
  let v662_r0 : BitVec 32 := Scalar.addi v8 c1_i32_595_r0
  let c4_i32_596_r0 : BitVec 32 := 4#32
  let v663_r0 : BitVec 32 := Scalar.remsi v662_r0 c4_i32_596_r0
  let c1_i32_605_r0 : BitVec 32 := 1#32
  let v672_r0 : BitVec 32 := Scalar.muli v663_r0 c1_i32_605_r0
  let v673_r0 : BitVec 32 := Scalar.addi v671_r0 v672_r0
  v673_r0.toNat
def k0_dev14 (d0 : Dev nD) : Nat :=
  let c0_i32_608_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_607_r0 : BitVec 32 := 8#32
  let v674_r0 : BitVec 32 := Scalar.muli v2 c8_i32_607_r0
  let v675_r0 : BitVec 32 := Scalar.addi c0_i32_608_r0 v674_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_609_r0 : BitVec 32 := 4#32
  let v676_r0 : BitVec 32 := Scalar.muli v5 c4_i32_609_r0
  let v677_r0 : BitVec 32 := Scalar.addi v675_r0 v676_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_597_r0 : BitVec 32 := 2#32
  let v664_r0 : BitVec 32 := Scalar.addi v8 c2_i32_597_r0
  let c4_i32_598_r0 : BitVec 32 := 4#32
  let v665_r0 : BitVec 32 := Scalar.remsi v664_r0 c4_i32_598_r0
  let c1_i32_610_r0 : BitVec 32 := 1#32
  let v678_r0 : BitVec 32 := Scalar.muli v665_r0 c1_i32_610_r0
  let v679_r0 : BitVec 32 := Scalar.addi v677_r0 v678_r0
  v679_r0.toNat
def k0_dev15 (d0 : Dev nD) : Nat :=
  let c0_i32_613_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_612_r0 : BitVec 32 := 8#32
  let v680_r0 : BitVec 32 := Scalar.muli v2 c8_i32_612_r0
  let v681_r0 : BitVec 32 := Scalar.addi c0_i32_613_r0 v680_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_614_r0 : BitVec 32 := 4#32
  let v682_r0 : BitVec 32 := Scalar.muli v5 c4_i32_614_r0
  let v683_r0 : BitVec 32 := Scalar.addi v681_r0 v682_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_599_r0 : BitVec 32 := 3#32
  let v666_r0 : BitVec 32 := Scalar.addi v8 c3_i32_599_r0
  let c4_i32_600_r0 : BitVec 32 := 4#32
  let v667_r0 : BitVec 32 := Scalar.remsi v666_r0 c4_i32_600_r0
  let c1_i32_615_r0 : BitVec 32 := 1#32
  let v684_r0 : BitVec 32 := Scalar.muli v667_r0 c1_i32_615_r0
  let v685_r0 : BitVec 32 := Scalar.addi v683_r0 v684_r0
  v685_r0.toNat
def k0_dev16 (d0 : Dev nD) : Nat :=
  let c0_i32_618_r0 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_6 v2
  let c8_i32_617_r0 : BitVec 32 := 8#32
  let v686_r0 : BitVec 32 := Scalar.muli v16 c8_i32_617_r0
  let v687_r0 : BitVec 32 := Scalar.addi c0_i32_618_r0 v686_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_619_r0 : BitVec 32 := 4#32
  let v688_r0 : BitVec 32 := Scalar.muli v5 c4_i32_619_r0
  let v689_r0 : BitVec 32 := Scalar.addi v687_r0 v688_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_620_r0 : BitVec 32 := 1#32
  let v690_r0 : BitVec 32 := Scalar.muli v8 c1_i32_620_r0
  let v691_r0 : BitVec 32 := Scalar.addi v689_r0 v690_r0
  v691_r0.toNat
def k0_dev17 (d0 : Dev nD) : Nat :=
  let c0_i32_623_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_622_r0 : BitVec 32 := 8#32
  let v692_r0 : BitVec 32 := Scalar.muli v2 c8_i32_622_r0
  let v693_r0 : BitVec 32 := Scalar.addi c0_i32_623_r0 v692_r0
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_7 v5
  let c4_i32_624_r0 : BitVec 32 := 4#32
  let v694_r0 : BitVec 32 := Scalar.muli v17 c4_i32_624_r0
  let v695_r0 : BitVec 32 := Scalar.addi v693_r0 v694_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_625_r0 : BitVec 32 := 1#32
  let v696_r0 : BitVec 32 := Scalar.muli v8 c1_i32_625_r0
  let v697_r0 : BitVec 32 := Scalar.addi v695_r0 v696_r0
  v697_r0.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S1024x1x2 : Shape := ⟨3, ![1024, 1, 2]⟩
abbrev S16 : Shape := ⟨1, ![16]⟩
abbrev S1x16x1 : Shape := ⟨3, ![1, 16, 1]⟩
abbrev S1024x16x2 : Shape := ⟨3, ![1024, 16, 2]⟩
abbrev S16x1024x1024 : Shape := ⟨3, ![16, 1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16, .f32⟩
  | .hbm, ⟨2, _⟩ => ⟨S16x1024x2048, .f32⟩
  | .hbm, ⟨3, _⟩ => ⟨S16x2048x1024, .f32⟩
  | .hbm, ⟨4, _⟩ => ⟨S1024x16, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2, .f32⟩
  | .hbm, ⟨11, _⟩ => ⟨S1024x2, .f32⟩
  | .hbm, ⟨12, _⟩ => ⟨S1024x2, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x2, .f32⟩
  | .hbm, ⟨17, _⟩ => ⟨S1024x2, .f32⟩
  | .hbm, ⟨18, _⟩ => ⟨S1024x1x2, .i32⟩
  | .hbm, ⟨19, _⟩ => ⟨S16, .i32⟩
  | .hbm, ⟨20, _⟩ => ⟨S1x16x1, .i32⟩
  | .hbm, ⟨21, _⟩ => ⟨S1024x16x2, .i32⟩
  | .hbm, ⟨22, _⟩ => ⟨S1024x16x2, .i32⟩
  | .hbm, ⟨23, _⟩ => ⟨S1024x16x2, .i1⟩
  | .hbm, ⟨24, _⟩ => ⟨S1024x1x2, .f32⟩
  | .hbm, ⟨25, _⟩ => ⟨S_, .f32⟩
  | .hbm, ⟨26, _⟩ => ⟨S_, .f32⟩
  | .hbm, ⟨27, _⟩ => ⟨S1024x16x2, .f32⟩
  | .hbm, ⟨28, _⟩ => ⟨S1024x16x2, .f32⟩
  | .hbm, ⟨29, _⟩ => ⟨S1024x16x2, .f32⟩
  | .hbm, ⟨30, _⟩ => ⟨S_, .f32⟩
  | .hbm, ⟨31, _⟩ => ⟨S1024x16, .f32⟩
  | .hbm, ⟨32, _⟩ => ⟨S16x2048x1024, .f32⟩
  | .hbm, ⟨33, _⟩ => ⟨S16x1024x2048, .f32⟩
  | .hbm, ⟨34, _⟩ => ⟨S_, .f32⟩
  | .hbm, ⟨35, _⟩ => ⟨S16x1024x2048, .f32⟩
  | .hbm, ⟨36, _⟩ => ⟨S16x1024x2048, .f32⟩
  | .hbm, ⟨37, _⟩ => ⟨S16x1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.KernelIdeal.Mesh.lean ====
/-
# The mesh, the buffers and the semaphores of the mixture-of-experts kernel

Device `c` of the sixteen sits at `(x, y, z)` with `c = 8x + 4y + z`. The four devices that share `(x, y)` form a ring
along `z`; `qq c = 2x + y` is the distance along that ring from which the device takes its tokens. The file names the
neighbours a device talks to, and relates the kernel's computed device numbers and conditions to them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic

@[expose] public section

set_option synthInstance.maxSize 4096

noncomputable section

namespace Cert.KernelIdealProof

open Cert.KernelIdeal Cert.KernelIdeal.Gen

open Idealize.ShloMosaic
open Idealize.ShloMosaic.TcCoe

/-! ## Neighbours -/

set_option backward.proofsInPublic true in
/-- The device `d` places further along the `z` ring. -/
def zp (d : ℕ) (c : Dev nD) : Dev nD := ⟨c.val / 4 * 4 + (c.val % 4 + d) % 4, by have := c.isLt; simp only [nD] at *; omega⟩
set_option backward.proofsInPublic true in
/-- The device at the other `x`. -/
def xp (c : Dev nD) : Dev nD := ⟨(c.val + 8) % 16, by have := c.isLt; simp only [nD] at *; omega⟩
set_option backward.proofsInPublic true in
/-- The device at the other `y`. -/
def yp (c : Dev nD) : Dev nD := ⟨c.val / 8 * 8 + (c.val % 8 + 4) % 8, by have := c.isLt; simp only [nD] at *; omega⟩

/-- `2x + y`: how far along the ring the device's tokens come from. -/
def qq (c : Dev nD) : ℕ := c.val / 4

/-- Where the device's tokens come from, and to whom its own tokens go. -/
def fwd (c : Dev nD) : Dev nD := zp (qq c) c
def bwd (c : Dev nD) : Dev nD := zp (4 - qq c) c

theorem qq_lt (c : Dev nD) : qq c < 4 := by revert c; decide
theorem qq_zp1 (c : Dev nD) : qq (zp 1 c) = qq c := by revert c; decide
theorem qq_zp2 (c : Dev nD) : qq (zp 2 c) = qq c := by revert c; decide
theorem qq_zp3 (c : Dev nD) : qq (zp 3 c) = qq c := by revert c; decide
theorem qq_fwd (c : Dev nD) : qq (fwd c) = qq c := by revert c; decide
theorem qq_bwd (c : Dev nD) : qq (bwd c) = qq c := by revert c; decide
theorem zp3_zp1 (c : Dev nD) : zp 3 (zp 1 c) = c := by revert c; decide
theorem zp2_zp2 (c : Dev nD) : zp 2 (zp 2 c) = c := by revert c; decide
theorem zp1_zp3 (c : Dev nD) : zp 1 (zp 3 c) = c := by revert c; decide
theorem xp_xp (c : Dev nD) : xp (xp c) = c := by revert c; decide
theorem yp_yp (c : Dev nD) : yp (yp c) = c := by revert c; decide
theorem fwd_bwd (c : Dev nD) : fwd (bwd c) = c := by revert c; decide
theorem bwd_fwd (c : Dev nD) : bwd (fwd c) = c := by revert c; decide
theorem fwd_of_zero {c : Dev nD} (h : qq c = 0) : fwd c = c := by revert c; decide
theorem bwd_of_zero {c : Dev nD} (h : qq c = 0) : bwd c = c := by revert c; decide

/-! ## The kernel's computed device numbers and conditions -/

theorem dev1_eq (c : Dev nD) : (⟨k0_dev1 c, k0_dev1_lt c⟩ : Dev nD) = zp 1 c := Fin.ext ((k0_dev1_eq c).trans (by revert c; decide))
theorem dev2_eq (c : Dev nD) : (⟨k0_dev2 c, k0_dev2_lt c⟩ : Dev nD) = zp 2 c := Fin.ext ((k0_dev2_eq c).trans (by revert c; decide))
theorem dev3_eq (c : Dev nD) : (⟨k0_dev3 c, k0_dev3_lt c⟩ : Dev nD) = zp 3 c := Fin.ext ((k0_dev3_eq c).trans (by revert c; decide))
theorem dev4_eq (c : Dev nD) : (⟨k0_dev4 c, k0_dev4_lt c⟩ : Dev nD) = xp c := Fin.ext ((k0_dev4_eq c).trans (by revert c; decide))
theorem dev5_eq (c : Dev nD) : (⟨k0_dev5 c, k0_dev5_lt c⟩ : Dev nD) = yp c := Fin.ext ((k0_dev5_eq c).trans (by revert c; decide))
theorem dev6_eq (c : Dev nD) : (⟨k0_dev6 c, k0_dev6_lt c⟩ : Dev nD) = zp 1 c := Fin.ext ((k0_dev6_eq c).trans (by revert c; decide))
theorem dev7_eq (c : Dev nD) : (⟨k0_dev7 c, k0_dev7_lt c⟩ : Dev nD) = zp 2 c := Fin.ext ((k0_dev7_eq c).trans (by revert c; decide))
theorem dev8_eq (c : Dev nD) : (⟨k0_dev8 c, k0_dev8_lt c⟩ : Dev nD) = zp 3 c := Fin.ext ((k0_dev8_eq c).trans (by revert c; decide))
theorem dev9_eq (c : Dev nD) (h : k0_cond1 c = 1#1) : (⟨k0_dev9 c, k0_dev9_lt c h⟩ : Dev nD) = bwd c := Fin.ext ((k0_dev9_eq c).trans (by revert c; decide))
theorem dev10_eq (c : Dev nD) (h : k0_cond4 c = 1#1) : (⟨k0_dev10 c, k0_dev10_lt c h⟩ : Dev nD) = fwd c := Fin.ext ((k0_dev10_eq c).trans (by revert c; decide))
theorem dev11_eq (c : Dev nD) : (⟨k0_dev11 c, k0_dev11_lt c⟩ : Dev nD) = xp c := Fin.ext ((k0_dev11_eq c).trans (by revert c; decide))
theorem dev12_eq (c : Dev nD) : (⟨k0_dev12 c, k0_dev12_lt c⟩ : Dev nD) = yp c := Fin.ext ((k0_dev12_eq c).trans (by revert c; decide))
theorem dev13_eq (c : Dev nD) : (⟨k0_dev13 c, k0_dev13_lt c⟩ : Dev nD) = zp 1 c := Fin.ext ((k0_dev13_eq c).trans (by revert c; decide))
theorem dev14_eq (c : Dev nD) : (⟨k0_dev14 c, k0_dev14_lt c⟩ : Dev nD) = zp 2 c := Fin.ext ((k0_dev14_eq c).trans (by revert c; decide))
theorem dev15_eq (c : Dev nD) : (⟨k0_dev15 c, k0_dev15_lt c⟩ : Dev nD) = zp 3 c := Fin.ext ((k0_dev15_eq c).trans (by revert c; decide))
theorem dev16_eq (c : Dev nD) : (⟨k0_dev16 c, k0_dev16_lt c⟩ : Dev nD) = xp c := Fin.ext ((k0_dev16_eq c).trans (by revert c; decide))
theorem dev17_eq (c : Dev nD) : (⟨k0_dev17 c, k0_dev17_lt c⟩ : Dev nD) = yp c := Fin.ext ((k0_dev17_eq c).trans (by revert c; decide))

/-- The device's coordinates and derived words as the kernel computes them. -/
def wx (c : Dev nD) : BitVec 32 := Scalar.remsi (Scalar.divsi (Dev.word c) 8#32) 2#32
def wy (c : Dev nD) : BitVec 32 := Scalar.remsi (Scalar.divsi (Dev.word c) 4#32) 2#32
def wz (c : Dev nD) : BitVec 32 := Scalar.remsi (Scalar.divsi (Dev.word c) 1#32) 4#32
def wq (c : Dev nD) : BitVec 32 := Scalar.addi (Scalar.muli 2#32 (wx c)) (wy c)

theorem cond1_iff (c : Dev nD) : k0_cond1 c = 1#1 ↔ qq c ≠ 0 := by revert c; decide +kernel
theorem cond4_iff (c : Dev nD) : k0_cond4 c = 1#1 ↔ qq c ≠ 0 := by revert c; decide +kernel

/-! ## Buffers -/

abbrev xM : Memref sig .tc .vmem S256x1024 .f32 := Memref.whole cc0_stg0_0
abbrev rM : Memref sig .tc .vmem S1024x4 .f32 := Memref.whole cc0_stg1_0
abbrev oM : Memref sig .tc .vmem S256x1024 .f32 := Memref.whole cc0_stg2_0
abbrev w1M : Memref sig .tc .hbm S4x1024x2048 .f32 := Memref.whole main_arg2
abbrev w2M : Memref sig .tc .hbm S4x2048x1024 .f32 := Memref.whole main_arg3
abbrev rgM : Memref sig .tc .vmem S4x1024x4 .f32 := Memref.whole cc0_scratch0
abbrev xbM : Memref sig .tc .vmem S256x1024 .f32 := Memref.whole cc0_scratch1
abbrev psM : Memref sig .tc .vmem S256x1024 .bf16 := Memref.whole cc0_scratch2
abbrev prM : Memref sig .tc .vmem S256x1024 .bf16 := Memref.whole cc0_scratch3
abbrev pxM : Memref sig .tc .vmem S256x1024 .bf16 := Memref.whole cc0_scratch4
abbrev sxM : Memref sig .tc .vmem S256x1024 .bf16 := Memref.whole cc0_scratch5
abbrev pyM : Memref sig .tc .vmem S256x1024 .bf16 := Memref.whole cc0_scratch6
abbrev stM : Memref sig .tc .vmem S2x1024x1024 .f32 := Memref.whole cc0_scratch7
abbrev w1cM : Memref sig .tc .vmem S4x1024x2048 .bf16 := Memref.whole cc0_scratch8
abbrev w2cM : Memref sig .tc .vmem S4x2048x1024 .bf16 := Memref.whole cc0_scratch9

/-- The four slots of the router-column gather buffer: slot `d` takes the columns of the device `d` places on. -/
abbrev rg0 : Memref sig .tc .vmem S1024x4 .f32 := (rgM.slice (Rect.unit (s := S4x1024x4) ![0, 0, 0] S1x1024x4.size inb_S4x1024x4_S1x1024x4_0_0_0) (fun _ => rfl)).squeeze S1024x4 squeezes_S1x1024x4_S1024x4
abbrev rg1 : Memref sig .tc .vmem S1024x4 .f32 := (rgM.slice (Rect.unit (s := S4x1024x4) ![1, 0, 0] S1x1024x4.size inb_S4x1024x4_S1x1024x4_1_0_0) (fun _ => rfl)).squeeze S1024x4 squeezes_S1x1024x4_S1024x4
abbrev rg2 : Memref sig .tc .vmem S1024x4 .f32 := (rgM.slice (Rect.unit (s := S4x1024x4) ![2, 0, 0] S1x1024x4.size inb_S4x1024x4_S1x1024x4_2_0_0) (fun _ => rfl)).squeeze S1024x4 squeezes_S1x1024x4_S1024x4
abbrev rg3 : Memref sig .tc .vmem S1024x4 .f32 := (rgM.slice (Rect.unit (s := S4x1024x4) ![3, 0, 0] S1x1024x4.size inb_S4x1024x4_S1x1024x4_3_0_0) (fun _ => rfl)).squeeze S1024x4 squeezes_S1x1024x4_S1024x4

/-! ## Semaphores -/

abbrev barS : Sem sig := (SemArray.scalar (sig.barrier 0 rfl) : Sems sig S_).sem
abbrev extS : Sem sig := (cc0_scoped0 : Sems sig S_).sem
abbrev rgSS (i : Fin 1 → ℕ) (h : ∀ a, i a + S1.size a ≤ S4.size a) : DmaSem sig := ((cc0_scratch10.slice (Rect.unit (s := S4) i S1.size h)).squeeze S_ squeezes_S1_S_).sem
abbrev rgRS (i : Fin 1 → ℕ) (h : ∀ a, i a + S1.size a ≤ S4.size a) : DmaSem sig := ((cc0_scratch11.slice (Rect.unit (s := S4) i S1.size h)).squeeze S_ squeezes_S1_S_).sem
abbrev wdS (i : Fin 1 → ℕ) (h : ∀ a, i a + S1.size a ≤ S2.size a) : DmaSem sig := ((cc0_scratch20.slice (Rect.unit (s := S2) i S1.size h)).squeeze S_ squeezes_S1_S_).sem

/-- The kinds of semaphore cell a device has in the cross-device protocol: the entry barrier, the receive and send cells
    of the router gather (by slot), of the token hop, of the partial-sum hop back, of the two exchanges along `x` and `y`,
    and the exit barrier. -/
inductive K where
  | bar | rgR1 | rgR2 | rgR3 | rgS1 | rgS2 | rgS3 | xpR | xpS | ppR | ppS | axR | axS | ayR | ayS | ext
  deriving DecidableEq

/-- All the kinds, in one list. -/
def kinds : List K := [.bar, .rgR1, .rgR2, .rgR3, .rgS1, .rgS2, .rgS3, .xpR, .xpS, .ppR, .ppS, .axR, .axS, .ayR, .ayS, .ext]

theorem kinds_nodup : kinds.Nodup := by decide
theorem mem_kinds (k : K) : k ∈ kinds := by cases k <;> decide

instance : Fintype K := ⟨⟨kinds, kinds_nodup⟩, mem_kinds⟩

/-- The semaphore of a kind. -/
@[reducible] def semOf : K → SemLoc sig
  | .bar => .reg barS
  | .rgR1 => .dma (rgRS ![1] inb_S4_S1_1)
  | .rgR2 => .dma (rgRS ![2] inb_S4_S1_2)
  | .rgR3 => .dma (rgRS ![3] inb_S4_S1_3)
  | .rgS1 => .dma (rgSS ![1] inb_S4_S1_1)
  | .rgS2 => .dma (rgSS ![2] inb_S4_S1_2)
  | .rgS3 => .dma (rgSS ![3] inb_S4_S1_3)
  | .xpS => .dma cc0_scratch12.sem
  | .xpR => .dma cc0_scratch13.sem
  | .ppS => .dma cc0_scratch14.sem
  | .ppR => .dma cc0_scratch15.sem
  | .axS => .dma cc0_scratch16.sem
  | .axR => .dma cc0_scratch17.sem
  | .ayS => .dma cc0_scratch18.sem
  | .ayR => .dma cc0_scratch19.sem
  | .ext => .reg extS

/-- The kind a semaphore is of, if any. -/
def kindOf (s : SemLoc sig) : Option K := kinds.find? (fun k => decide (semOf k = s))

theorem kindOf_semOf (k : K) : kindOf (semOf k) = some k := by revert k; decide +kernel
theorem kindOf_stage (w : Fin 3) : kindOf (.dma ⟨w.val, by have := w.isLt; simp [sig]; omega⟩) = none := by revert w; decide +kernel
theorem kindOf_wd0 : kindOf (.dma (wdS ![0] inb_S2_S1_0)) = none := by decide +kernel
theorem kindOf_wd1 : kindOf (.dma (wdS ![1] inb_S2_S1_1)) = none := by decide +kernel

end Cert.KernelIdealProof
-- ==== Proof.KernelIdeal.Proto.lean ====
/-
# The cross-device protocol

Which cells a device has, who pays each duty and with what, in what order a device settles what it owes, and the order of
the waits. Contents are functions of the launch memory `m`:

* `xs c`, `rs c`, `w1 c`, `w2 c`: the device's own tokens, router columns and expert weights;
* `w1t c`, `w2t c`: the weights as kept in VMEM;
* `psrc c`: the device's experts applied to the tokens of `fwd c`;
* `prc c`: the partial sum that belongs to the device's own tokens, computed by `bwd c`;
* `sxy c`: the sum of the pair along `x`; `outAt c`: the sum of all four.
-/
module

public import proofs.«01_k».proof.Proof.KernelIdeal.Mesh

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline library's copy, the protocol's, and the local transfers' counters -/

abbrev UB : Type := URounds (GSem nD τ sig) (Fin 5)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## Contents -/

/-- The device's tokens, as its window stages them. -/
def xs (c : Dev nD) : S256x1024.Idx → Elt F .f32 :=
  (win0_0.blk (0 : Fin 1)).view.read (Elt F) (m ((c : Thread nD τ).loc main_arg0))
/-- The device's router columns, as its window stages them. -/
def rs (c : Dev nD) : S1024x4.Idx → Elt F .f32 :=
  (win0_1.blk (0 : Fin 1)).view.read (Elt F) (m ((c : Thread nD τ).loc main_arg1))
/-- The device's first and second expert weights. -/
def w1 (c : Dev nD) : S4x1024x2048.Idx → Elt F .f32 := m ((c : Thread nD τ).loc main_arg2)
def w2 (c : Dev nD) : S4x2048x1024.Idx → Elt F .f32 := m ((c : Thread nD τ).loc main_arg3)
/-- The weights as the kernel keeps them, every word narrowed. -/
def w1t (c : Dev nD) : S4x1024x2048.Idx → Elt F .bf16 := truncf (s := S4x1024x2048) .bf16 (w1 m c) bitsLt_bf16_f32
def w2t (c : Dev nD) : S4x2048x1024.Idx → Elt F .bf16 := truncf (s := S4x2048x1024) .bf16 (w2 m c) bitsLt_bf16_f32

/-- One expert's weights, as the kernel loads them. -/
def e1 (c : Dev nD) (o : Fin 3 → ℕ) (h : ∀ a, o a + S1x1024x2048.size a ≤ S4x1024x2048.size a) : Vec F S1x1024x2048 .bf16 :=
  w1cM.view.readAt (Elt F) (Rect.unit (s := S4x1024x2048) o S1x1024x2048.size h).toLoadRect (w1t m c)
def e2 (c : Dev nD) (o : Fin 3 → ℕ) (h : ∀ a, o a + S1x2048x1024.size a ≤ S4x2048x1024.size a) : Vec F S1x2048x1024 .bf16 :=
  w2cM.view.readAt (Elt F) (Rect.unit (s := S4x2048x1024) o S1x2048x1024.size h).toLoadRect (w2t m c)

/-- A slot's columns as a load of the slot through the gather buffer reads them. -/
def lift4 (X : S1024x4.Idx → Elt F .f32) : Vec F S1x1024x4 .f32 := shapeCast S1x1024x4 X shapeCasts_S1024x4_S1x1024x4

/-- The kernel's partial sum over the device's four experts from the values it loads. -/
def partialSum (z : BitVec 32) (g0 g1 g2 g3 : Vec F S1x1024x4 .f32) (x : Vec F S256x1024 .f32)
    (a0 : Vec F S1x1024x2048 .bf16) (b0 : Vec F S1x2048x1024 .bf16) (a1 : Vec F S1x1024x2048 .bf16) (b1 : Vec F S1x2048x1024 .bf16)
    (a2 : Vec F S1x1024x2048 .bf16) (b2 : Vec F S1x2048x1024 .bf16) (a3 : Vec F S1x1024x2048 .bf16) (b3 : Vec F S1x2048x1024 .bf16) :
    FVec F S256x1024 .bf16 :=
  k0_pay36 z (k0_pay23 z g0 g1 g2 g3 x)
    (k0_pay27 (iota .tc S256x16 32 [1] iota_S256x16_d1_w32) (k0_pay24 z g0 g1 g2 g3 x) (k0_pay25 z g0 g1 g2 g3 x))
    (k0_pay28 (k0_pay22 z g0 g1 g2 g3 x) (k0_pay25 z g0 g1 g2 g3 x))
    (k0_pay29 (k0_pay22 z g0 g1 g2 g3 x) (k0_pay25 z g0 g1 g2 g3 x))
    (k0_pay30 x)
    (k0_pay32 z (k0_pay23 z g0 g1 g2 g3 x)
      (k0_pay27 (iota .tc S256x16 32 [1] iota_S256x16_d1_w32) (k0_pay24 z g0 g1 g2 g3 x) (k0_pay25 z g0 g1 g2 g3 x))
      (k0_pay28 (k0_pay22 z g0 g1 g2 g3 x) (k0_pay25 z g0 g1 g2 g3 x))
      (k0_pay29 (k0_pay22 z g0 g1 g2 g3 x) (k0_pay25 z g0 g1 g2 g3 x))
      (k0_pay30 x)
      (k0_pay31 z x (iota .tc S256x16 32 [1] iota_S256x16_d1_w32) (k0_pay22 z g0 g1 g2 g3 x) (k0_pay23 z g0 g1 g2 g3 x)
        (k0_pay24 z g0 g1 g2 g3 x) (k0_pay25 z g0 g1 g2 g3 x) a0 b0)
      a1 b1)
    (k0_pay33 (k0_pay30 x) a2 b2)
    (k0_pay34 z (k0_pay23 z g0 g1 g2 g3 x) (k0_pay28 (k0_pay22 z g0 g1 g2 g3 x) (k0_pay25 z g0 g1 g2 g3 x)))
    (k0_pay35 z) a3 b3

/-- The device's experts applied to the tokens of `fwd c`. -/
def psrc (c : Dev nD) : S256x1024.Idx → Elt F .bf16 :=
  partialSum (wz c) (lift4 (rs m c)) (lift4 (rs m (zp 1 c))) (lift4 (rs m (zp 2 c))) (lift4 (rs m (zp 3 c))) (xs m (fwd c))
    (e1 m c ![0, 0, 0] inb_S4x1024x2048_S1x1024x2048_0_0_0) (e2 m c ![0, 0, 0] inb_S4x2048x1024_S1x2048x1024_0_0_0)
    (e1 m c ![1, 0, 0] inb_S4x1024x2048_S1x1024x2048_1_0_0) (e2 m c ![1, 0, 0] inb_S4x2048x1024_S1x2048x1024_1_0_0)
    (e1 m c ![2, 0, 0] inb_S4x1024x2048_S1x1024x2048_2_0_0) (e2 m c ![2, 0, 0] inb_S4x2048x1024_S1x2048x1024_2_0_0)
    (e1 m c ![3, 0, 0] inb_S4x1024x2048_S1x1024x2048_3_0_0) (e2 m c ![3, 0, 0] inb_S4x2048x1024_S1x2048x1024_3_0_0)
def prc (c : Dev nD) : S256x1024.Idx → Elt F .bf16 := psrc m (bwd c)
def sxy (c : Dev nD) : S256x1024.Idx → Elt F .bf16 := k0_pay39 (prc m c) (prc m (xp c))
def outAt (c : Dev nD) : S256x1024.Idx → Elt F .f32 := k0_pay40 (k0_pay38 (prc m c) (prc m (xp c))) (sxy m (yp c))

/-! ## The schedule -/

/-- The cell of a kind on a device. -/
abbrev kc (e : Dev nD × K) : GSem nD τ sig := ((e.1 : Thread nD τ), semOf e.2)

/-- A memref's elements, whatever they hold. -/
def anyOf (c : Dev nD) {sp : Space} {s : Shape} {e : EltTy} (M : Memref sig .tc sp s e) : sProp 𝕄 :=
  iprop(∃ f, M.view.loc (c : Thread nD τ) ↦[M.view.set]{fullShare} f)
omit [FloatOps F] [Named F] in
instance anyOf_storable (c : Dev nD) {sp : Space} {s : Shape} {e : EltTy} (M : Memref sig .tc sp s e) :
    BI.Storable (upEmb : UEmb _ 𝕄) (anyOf (F := F) c M) := by unfold anyOf; infer_instance

/-- A memref's elements at a share, reading `X`. -/
abbrev own (c : Dev nD) {sp : Space} {s : Shape} {e : EltTy} (M : Memref sig .tc sp s e) (q : PosShare TreeShare) (X : s.Idx → Elt F e) : sProp 𝕄 :=
  owns (c : Thread nD τ) M q X

/-- An assertion under a condition; nothing otherwise. -/
def onlyIf (p : Prop) [Decidable p] (P : sProp 𝕄) : sProp 𝕄 := if p then P else iprop(emp)
omit [FloatOps F] [Named F] in
instance onlyIf_storable (p : Prop) [Decidable p] (P : sProp 𝕄) [BI.Storable (upEmb : UEmb _ 𝕄) P] :
    BI.Storable (upEmb : UEmb _ 𝕄) (onlyIf (F := F) p P) := by unfold onlyIf; split <;> infer_instance

/-- The shares the device's own router slot is read at by the three sends and by its own load. -/
abbrev s1 : PosShare TreeShare := fullShare.left.left
abbrev s2 : PosShare TreeShare := fullShare.left.right
abbrev s3 : PosShare TreeShare := fullShare.right.left
abbrev s4 : PosShare TreeShare := fullShare.right.right

/-- What a neighbour hands a device with its signal to the device's entry barrier: the buffers the device is going to write
    on that neighbour. -/
def barPay (c : Dev nD) : Fin 5 → sProp 𝕄
  | 0 => iprop(anyOf (zp 3 c) rg1 ∗ onlyIf (qq c = 1) (anyOf (zp 3 c) xbM) ∗ onlyIf (qq c = 3) (anyOf (zp 3 c) prM))
  | 1 => iprop(anyOf (zp 2 c) rg2 ∗ onlyIf (qq c = 2) (anyOf (zp 2 c) xbM) ∗ onlyIf (qq c = 2) (anyOf (zp 2 c) prM))
  | 2 => iprop(anyOf (zp 1 c) rg3 ∗ onlyIf (qq c = 3) (anyOf (zp 1 c) xbM) ∗ onlyIf (qq c = 1) (anyOf (zp 1 c) prM))
  | 3 => anyOf (xp c) pxM
  | 4 => anyOf (yp c) pyM

/-- What the duty `d` of a device's cell of a kind is paid with. -/
def pay (c : Dev nD) : K → Fin 5 → sProp 𝕄
  | .bar, d => barPay c d
  | .rgR1, _ => own c rg1 fullShare (rs m (zp 1 c))
  | .rgR2, _ => own c rg2 fullShare (rs m (zp 2 c))
  | .rgR3, _ => own c rg3 fullShare (rs m (zp 3 c))
  | .rgS1, _ => own c rg0 s1 (rs m c)
  | .rgS2, _ => own c rg0 s2 (rs m c)
  | .rgS3, _ => own c rg0 s3 (rs m c)
  | .xpR, _ => own c xbM fullShare (xs m (fwd c))
  | .xpS, _ => own c xM fullShare (xs m c)
  | .ppR, _ => own c prM fullShare (prc m c)
  | .ppS, _ => own c psM fullShare (psrc m c)
  | .axR, _ => own c pxM fullShare (prc m (xp c))
  | .axS, _ => own c prM fullShare.left (prc m c)
  | .ayR, _ => own c pyM fullShare (sxy m (yp c))
  | .ayS, _ => own c sxM fullShare (sxy m c)
  | .ext, _ => iprop(emp)

instance pay_storable (c : Dev nD) (k : K) (d : Fin 5) : BI.Storable (upEmb : UEmb _ 𝕄) (pay (F := F) m c k d) := by
  cases k <;> (try unfold pay) <;> try infer_instance
  fin_cases d <;> (show BI.Storable upEmb (barPay c _)) <;> unfold barPay <;> infer_instance

/-- The credit of a duty. -/
def amt : K → ℕ
  | .bar | .ext => 1
  | .rgR1 | .rgR2 | .rgR3 | .rgS1 | .rgS2 | .rgS3 => rg1.view.dmaCredit
  | .xpR | .xpS => xbM.view.dmaCredit
  | _ => prM.view.dmaCredit

theorem amt_pos (k : K) : 0 < amt k := by
  have h1 : 0 < rg1.view.dmaCredit := View.dmaCredit_pos _ (by decide)
  have h2 : 0 < xbM.view.dmaCredit := View.dmaCredit_pos _ (by decide)
  have h3 : 0 < prM.view.dmaCredit := View.dmaCredit_pos _ (by decide)
  cases k <;> first | exact Nat.one_pos | exact h1 | exact h2 | exact h3

/-- The duties of a cell: five for the two barriers, one for a transfer's cells; none for the hops a device does not make. -/
def dut (c : Dev nD) : K → Finset (Fin 5)
  | .bar | .ext => Finset.univ
  | .xpR | .xpS | .ppR | .ppS => if qq c = 0 then ∅ else {0}
  | _ => {0}

/-- One round, round 0. -/
def rd : Rounds.Schedule (GSem nD τ sig) (Fin 5) 𝕄 where
  duties g r := if r = 0 ∧ g.1.2 = .tc then (match kindOf g.2 with | some k => dut g.1.1 k | none => ∅) else ∅
  unitless _ := False
  amount g _ _ := match kindOf g.2 with | some k => amt k | none => 1
  payload g _ d := match kindOf g.2 with | some k => pay m g.1.1 k d | none => iprop(emp)
  amount_pos g _ _ _ := by
    cases kindOf g.2 with
    | some k => exact amt_pos k
    | none => exact Nat.one_pos

instance rd_payload_storable (g : GSem nD τ sig) (r : ℕ) (d : Fin 5) :
    BI.Storable (upEmb : UEmb _ 𝕄) ((rd (F := F) m).payload g r d) := by
  show BI.Storable upEmb (match kindOf g.2 with | some k => pay m g.1.1 k d | none => iprop(emp))
  split <;> infer_instance

theorem rd_duties (e : Dev nD × K) : (rd (F := F) m).duties (kc e) 0 = dut e.1 e.2 := by
  dsimp only [rd]; rw [if_pos ⟨rfl, rfl⟩, kindOf_semOf]
theorem rd_later (g : GSem nD τ sig) (r : ℕ) (hr : 1 ≤ r) : (rd (F := F) m).duties g r = ∅ := by
  dsimp only [rd]; rw [if_neg fun h => by omega]
theorem rd_amount (e : Dev nD × K) (d : Fin 5) : (rd (F := F) m).amount (kc e) 0 d = amt e.2 := by
  dsimp only [rd]; rw [kindOf_semOf]
theorem rd_payload (e : Dev nD × K) (d : Fin 5) : (rd (F := F) m).payload (kc e) 0 d = pay m e.1 e.2 d := by
  dsimp only [rd]; rw [kindOf_semOf]
theorem rd_expect (e : Dev nD × K) : (rd (F := F) m).expect (kc e) 0 = (dut e.1 e.2).card * amt e.2 := by
  unfold Schedule.expect Schedule.amountOf
  rw [rd_duties, Finset.sum_congr rfl fun d _ => rd_amount m e d, Finset.sum_const, smul_eq_mul]

/-! ## What a device owes, in the order it pays -/

/-- The debts of a list, the head paid first. -/
def tl : List (Dev nD × K) → CellTallies nD τ sig Unit
  | [] => 0
  | e :: l => tl l + tallyAt (kc e) () (amt e.2)

def extL (c : Dev nD) : List (Dev nD × K) := [(zp 1 c, .ext), (zp 2 c, .ext), (zp 3 c, .ext), (xp c, .ext), (yp c, .ext)]
def ayL (c : Dev nD) : List (Dev nD × K) := (yp c, .ayR) :: extL c
def axL (c : Dev nD) : List (Dev nD × K) := (xp c, .axR) :: ayL c
def ppL (c : Dev nD) : List (Dev nD × K) := if qq c = 0 then axL c else (fwd c, .ppR) :: axL c
def xpL (c : Dev nD) : List (Dev nD × K) := if qq c = 0 then ppL c else (bwd c, .xpR) :: ppL c
def rgL (c : Dev nD) : List (Dev nD × K) := (zp 1 c, .rgR3) :: (zp 2 c, .rgR2) :: (zp 3 c, .rgR1) :: xpL c
def barL (c : Dev nD) : List (Dev nD × K) := (zp 1 c, .bar) :: (zp 2 c, .bar) :: (zp 3 c, .bar) :: (xp c, .bar) :: (yp c, .bar) :: rgL c

def O₀ (c : Dev nD) : CellTallies nD τ sig Unit := tl (barL c)

/-! ## Levels -/

/-- The level of a kind: a wait is allowed while every debt is at a higher level. -/
def klev : K → ℕ
  | .bar => 1
  | .rgR1 | .rgR2 | .rgR3 | .xpR => 2
  | .ppR => 3
  | .axR => 4
  | .ayR => 5
  | .ext => 6
  | _ => 0

def L (g : GSem nD τ sig) : Finset Unit := if g.1.2 = .tc then {()} else ∅
def lv (g : GSem nD τ sig) (_ : Unit) : ℕ := match kindOf g.2 with | some k => klev k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kc (e : Dev nD × K) (u : Unit) : lv (kc e) u = klev e.2 := by unfold lv; rw [kindOf_semOf]

theorem tl_pos {l : List (Dev nD × K)} {g : GSem nD τ sig} {u : Unit} (h : 0 < tl l g u) : ∃ e ∈ l, g = kc e := by
  induction l with
  | nil => exact absurd h (Nat.lt_irrefl 0)
  | cons e l ih =>
    unfold tl at h
    rw [Pi.add_apply, Finsupp.add_apply, tallyAt_apply] at h
    by_cases hg : g = kc e ∧ u = ()
    · exact ⟨e, List.mem_cons_self, hg.1⟩
    · rw [if_neg hg] at h
      obtain ⟨e', he', h'⟩ := ih h
      exact ⟨e', List.mem_cons_of_mem _ he', h'⟩

omit [FloatOps F] [Named F] in
/-- A device may wait on one of its semaphores when every debt left is at a higher level. -/
theorem mayWait (c : Dev nD) (sm : SemLoc sig) (n : ℕ) (l : List (Dev nD × K)) (hn : lv ((c : Thread nD τ), sm) () ≤ n)
    (hl : ∀ e ∈ l, n < klev e.2) : (levAts L lv : sProp 𝕄) ⊢ MayWait (c : Thread nD τ) sm () (tl l) :=
  MayOwe.of_cut (L := L) (lev := lv) n (fun p hp => by rw [Finset.mem_singleton.mp hp, L_tc]; exact Finset.mem_singleton_self _)
    (fun g u hg => by obtain ⟨e, _, rfl⟩ := tl_pos hg; rw [L_tc]; exact Finset.mem_singleton_self _)
    (fun p hp => by rw [Finset.mem_singleton.mp hp]; exact hn)
    (fun g u hg => by obtain ⟨e, he, rfl⟩ := tl_pos hg; rw [lv_kc]; exact hl e he)

theorem lev_ext (c : Dev nD) : ∀ e ∈ extL c, 5 < klev e.2 := by
  unfold extL; simp [klev]
theorem lev_ay (c : Dev nD) : ∀ e ∈ ayL c, 4 < klev e.2 := by
  unfold ayL; intro e he; rcases List.mem_cons.mp he with rfl | he
  · exact (by decide : 4 < 5)
  · exact lt_trans (by decide) (lev_ext c e he)
theorem lev_ax (c : Dev nD) : ∀ e ∈ axL c, 3 < klev e.2 := by
  unfold axL; intro e he; rcases List.mem_cons.mp he with rfl | he
  · exact (by decide : 3 < 4)
  · exact lt_trans (by decide) (lev_ay c e he)
theorem lev_pp (c : Dev nD) : ∀ e ∈ ppL c, 2 < klev e.2 := by
  unfold ppL; intro e he
  split at he
  · exact lt_trans (by decide) (lev_ax c e he)
  · rcases List.mem_cons.mp he with rfl | he
    · exact (by decide : 2 < 3)
    · exact lt_trans (by decide) (lev_ax c e he)
theorem lev_xp (c : Dev nD) : ∀ e ∈ xpL c, 1 < klev e.2 := by
  unfold xpL; intro e he
  split at he
  · exact lt_trans (by decide) (lev_pp c e he)
  · rcases List.mem_cons.mp he with rfl | he
    · exact (by decide : 1 < 2)
    · exact lt_trans (by decide) (lev_pp c e he)
theorem lev_rg (c : Dev nD) : ∀ e ∈ rgL c, 1 < klev e.2 := by
  unfold rgL; intro e he
  rcases List.mem_cons.mp he with rfl | he
  · exact (by decide : 1 < 2)
  rcases List.mem_cons.mp he with rfl | he
  · exact (by decide : 1 < 2)
  rcases List.mem_cons.mp he with rfl | he
  · exact (by decide : 1 < 2)
  exact lev_xp c e he
theorem lev_bar (c : Dev nD) : ∀ e ∈ barL c, 0 < klev e.2 := by
  unfold barL; intro e he
  simp only [List.mem_cons] at he
  rcases he with rfl | rfl | rfl | rfl | rfl | he
  · exact (by decide : 0 < 1)
  · exact (by decide : 0 < 1)
  · exact (by decide : 0 < 1)
  · exact (by decide : 0 < 1)
  · exact (by decide : 0 < 1)
  · exact lt_trans (by decide) (lev_rg c e he)

/-! ## The duty tokens a device pays with -/

/-- The `j`-th duty device `p` pays: the cell and the duty's name. -/
def ent (p : Dev nD) : Fin 24 → (Dev nD × K) × Fin 5
  | 0 => ((zp 1 p, .bar), 0) | 1 => ((zp 2 p, .bar), 1) | 2 => ((zp 3 p, .bar), 2) | 3 => ((xp p, .bar), 3) | 4 => ((yp p, .bar), 4)
  | 5 => ((zp 1 p, .rgR3), 0) | 6 => ((zp 2 p, .rgR2), 0) | 7 => ((zp 3 p, .rgR1), 0)
  | 8 => ((bwd p, .xpR), 0) | 9 => ((fwd p, .ppR), 0) | 10 => ((xp p, .axR), 0) | 11 => ((yp p, .ayR), 0)
  | 12 => ((zp 1 p, .ext), 0) | 13 => ((zp 2 p, .ext), 1) | 14 => ((zp 3 p, .ext), 2) | 15 => ((xp p, .ext), 3) | 16 => ((yp p, .ext), 4)
  | 17 => ((p, .rgS1), 0) | 18 => ((p, .rgS2), 0) | 19 => ((p, .rgS3), 0)
  | 20 => ((p, .xpS), 0) | 21 => ((p, .ppS), 0) | 22 => ((p, .axS), 0) | _ => ((p, .ayS), 0)

def tok (p : Dev nD) (j : Fin 24) : sProp 𝕄 := dutyTok ER (kc (ent p j).1) 0 (ent p j).2

/-! ## What every device keeps at hand: the cells' invariants and that they have started -/

variable (κ : Dev nD × K → ℕ)

def records : sProp 𝕄 :=
  bigSep Finset.univ (fun e : Dev nD × K => iprop(cellInv ER (rd m) (κ e) (kc e) ∗ reached ER (kc e) 0))

instance records_persistent : BI.Persistent (records (F := F) m κ) := by unfold records; infer_instance

theorem records_inv (e : Dev nD × K) : records (F := F) m κ ⊢ cellInv ER (rd m) (κ e) (kc e) := by
  unfold records
  exact (bigSep_elim (Finset.mem_univ e)).trans (sep_and.trans and_elimL)
theorem records_reached (e : Dev nD × K) : records (F := F) m κ ⊢ reached ER (kc e) 0 := by
  unfold records
  exact (bigSep_elim (Finset.mem_univ e)).trans (sep_and.trans and_elimR)

/-- What the device still owes, whatever it has waited for. -/
def ow (c : Dev nD) (l : List (Dev nD × K)) : sProp 𝕄 := iprop(∃ W, owes (c : Thread nD τ) (tl l) W)

/-- The device's position at its cell of a kind: not yet waited for, or past its round. -/
def at0 (c : Dev nD) (k : K) : sProp 𝕄 := atPos ER (kc (c, k)) 0 ∅ 0
def fin (c : Dev nD) (k : K) : sProp 𝕄 := atPos ER (kc (c, k)) 1 ∅ 0

end Cert.KernelIdealProof
-- ==== Proof.KernelIdeal.Steps.lean ====
/-
# One rule per effect of the body, over the protocol's own names

Each rule takes the assertions an effect needs and hands back what it leaves, over any continuation.
-/
module

public import proofs.«01_k».proof.Proof.KernelIdeal.Proto
public import Idealize.ShloMosaic.Lib.VecWindow

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

abbrev 𝒱₀ : Variants := Variants.none

/-- The weakest precondition of a program of device `c`. -/
abbrev wpb (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Where the local copies' landing counters live. -/
abbrev EC : UEmb Counters 𝕄 := countersEmb (U := UU)

/-! ## Signals and waits -/

/-- A signal pays the head of the list of debts. -/
theorem step_signal {α : Type} {Q : α → sProp 𝕄} (c : Dev nD) (e : Dev nD × K) (d : Fin 5) {n : Dev nD} {s : Sem sig} {l : List (Dev nD × K)} (hn : n = e.1)
    (hs : semOf e.2 = SemLoc.reg s) (hd : d ∈ dut e.1 e.2) (ha : amt e.2 = 1)
    {k : PUnit → Prog (TpuEff nD τ sig (Elt F) Λ₀ .tc) α} {a : ℕ} (ha1 : a = 1) :
    iprop(records m κ ∗ ow c (e :: l) ∗ dutyTok ER (kc e) 0 d ∗ pay m e.1 e.2 d)
      ⊢ iprop((ow c l -∗ wpb c (k ⟨⟩) Q) -∗ wpb c (.op (.semSignal (n : Thread nD τ) s a) k) Q) := by
  subst hn ha1
  have hk : kc e = ((e.1 : Thread nD τ), SemLoc.reg s) := by unfold kc; rw [hs]
  have h1 := rd_duties (F := F) m e
  have h2 := rd_amount (F := F) m e d
  have h3 := rd_payload (F := F) m e d
  have ht : tl (e :: l) = tl l + tallyAt (kc e) () (amt e.2) := rfl
  unfold ow
  iintro ⟨#HR, ⟨%W, HO⟩, Ht, Hp⟩ Hk
  ihave #HI := (records_inv m κ e) $$ HR
  ihave #Hr := (records_reached m κ e) $$ HR
  rw [ht, ha, hk]
  rw [hk] at h1 h2 h3
  iapply (Rounds.wp_signal 𝒱₀ ER (rd m) (c : Thread nD τ) none (κ := κ e) (d := d) (r := 0) (by rw [h1]; exact hd) (h2.trans ha) () (tl l) rfl)
    $$ [HO Ht Hp]
  · isplitr; · iexact HI
    isplitl [HO]; · iexact HO
    isplitl [Ht]; · iexact Ht
    isplitl [Hp]; · rw [h3]; iexact Hp
    iexact Hr
  iintro HO
  iapply Hk
  iexists W; iexact HO

/-- A wait for a whole cell: the payloads of its duties. -/
theorem step_wait {α : Type} {Q : α → sProp 𝕄} (c : Dev nD) (k : K) {l : List (Dev nD × K)} {sm : SemLoc sig} {w : TpuEff nD τ sig (Elt F) Λ₀ .tc PUnit} {N : ℕ}
    (hs : semOf k = sm)
    (hw : ∀ K : PUnit → sProp 𝕄, wpE (defs₀ (F := F)) 𝒱₀ (c : Thread nD τ) none Set.univ w K = waitSpec (c : Thread nD τ) Set.univ sm N K)
    (hN : N = (dut c k).card * amt k) (hl : ∀ e ∈ l, klev k < klev e.2)
    {kk : PUnit → Prog (TpuEff nD τ sig (Elt F) Λ₀ .tc) α} :
    iprop(records m κ ∗ levAts L lv ∗ cred (tallyAt (kc (c, k)) () N) ∗ ow c l ∗ at0 c k)
      ⊢ iprop((iprop(ow c l ∗ fin c k ∗ bigSep (dut c k) (pay m c k)) -∗ wpb c (kk ⟨⟩) Q) -∗ wpb c (.op w kk) Q) := by
  subst hs
  unfold ow at0
  iintro ⟨#HR, #HL, Hc, ⟨%W, HO⟩, Hat⟩ Hk
  ihave #HI := (records_inv m κ (c, k)) $$ HR
  iapply (Rounds.wp_wait_rest_token 𝒱₀ ER (rd m) (c : Thread nD τ) none (κ := κ (c, k)) hw (Set.mem_univ _) () (O := tl l) (W := W) (R := 0) (m := 0) (T := ∅)
    (by rw [Nat.zero_add, hN]; exact (rd_expect m (c, k)).symm)) $$ [Hc HO Hat]
  · isplitr; · iexact HI
    isplitl [Hc]; · iexact Hc
    isplitl [HO]; · iexact HO
    isplitr; · iapply (mayWait c (semOf k) (klev k) l (le_of_eq (lv_kc (c, k) ())) hl); iexact HL
    iexact Hat
  iintro ⟨HO, Hat, -, Hp⟩
  iapply Hk
  isplitl [HO]; · iexists _; iexact HO
  isplitl [Hat]; · unfold fin; iexact Hat
  rw [Finset.sdiff_empty, rd_duties m (c, k)]
  iapply (Entails.of_eq (bigSep_congr fun d _ => rd_payload m (c, k) d)) $$ Hp

/-- A wait for a transfer's cell. -/
theorem step_waitDma {α : Type} {Q : α → sProp 𝕄} (c : Dev nD) (k : K) {l : List (Dev nD × K)} {sem : DmaSem sig} {sp sp' : Space} {s s' : Shape} {e e' : EltTy}
    {srcw : Memref sig .tc sp' s' e'} {dstw : Memref sig .tc sp s e} {hsrc : srcw.view.WordExact} {hdst : dstw.view.WordExact}
    (hs : semOf k = .dma sem) (hd : dut c k = {0}) (hN : dstw.view.dmaCredit = amt k) (hl : ∀ e ∈ l, klev k < klev e.2)
    {kk : PUnit → Prog (TpuEff nD τ sig (Elt F) Λ₀ .tc) α} :
    iprop(records m κ ∗ levAts L lv ∗ cred (tallyAt (kc (c, k)) () (amt k)) ∗ ow c l ∗ at0 c k)
      ⊢ iprop((iprop(ow c l ∗ fin c k ∗ pay m c k 0) -∗ wpb c (kk ⟨⟩) Q) -∗ wpb c (.op (.waitDma2 sem srcw dstw hsrc hdst) kk) Q) := by
  rw [← hN]
  have h := step_wait m κ (Q := Q) c k (l := l) (w := .waitDma2 sem srcw dstw hsrc hdst) (N := dstw.view.dmaCredit) hs
    (wpE_waitDma2_eq 𝒱₀ (c : Thread nD τ) none Set.univ) (by rw [hd, Finset.card_singleton, one_mul]; exact hN) hl (kk := kk)
  rw [hd, bigSep_singleton] at h
  exact h

/-! ## Transfers to a neighbour -/

/-- A transfer to a neighbour: it pays the head of the list of debts, and leaves the credit to wait for the source. -/
theorem step_send {α : Type} {Q : α → sProp 𝕄} (c c' : Dev nD) (kS kR : K) {n : Dev nD} (hn : n = c') {l : List (Dev nD × K)} {sp sp' : Space} {s : Shape} {e : EltTy}
    {src : Memref sig .tc sp s e} {dst : Memref sig (Dev.tc n : Thread nD τ).2.kind sp' s e} (dst' : Memref sig .tc sp' s e) (hdd : HEq dst dst')
    {hsc : dst.view.ref.isScScratch = false} {sS sR : SemLoc sig}
    {hsrc : src.view.WordExact} {hdst : dst.view.WordExact} {hsem : DmaTarget.Typed sp sR (.remote (Dev.tc n : Thread nD τ) dst sS hsc)}
    {q : PosShare TreeShare} {X : s.Idx → Elt F e}
    (hsS : semOf kS = sS) (hsR : semOf kR = sR) (hdS : 0 ∈ dut c kS) (hdR : 0 ∈ dut c' kR)
    (hN : dst'.view.amount sR = amt kR) (hN' : amt kS = amt kR)
    (hpS : pay m c kS 0 = own c src q X) (hpR : pay m c' kR 0 = own c' dst' fullShare X)
    {k : PUnit → Prog (TpuEff nD τ sig (Elt F) Λ₀ .tc) α} :
    iprop(records m κ ∗ own c src q X ∗ anyOf c' dst' ∗ ow c ((c', kR) :: l) ∗ dutyTok ER (kc (c, kS)) 0 0 ∗ dutyTok ER (kc (c', kR)) 0 0)
      ⊢ iprop((iprop(cred (tallyAt (kc (c, kS)) () (amt kS)) ∗ ow c l) -∗ wpb c (k ⟨⟩) Q)
          -∗ wpb c (.op (.enqueueDma src (.remote (Dev.tc n : Thread nD τ) dst sS hsc) sR hsrc hdst hsem) k) Q) := by
  subst hn
  cases hdd
  subst hsS hsR
  have ht : tl ((n, kR) :: l) = tl l + tallyAt (kc (n, kR)) () (amt kR) := rfl
  unfold ow own owns anyOf
  iintro ⟨#HR, ⟨%fs, %hfs, Hs⟩, ⟨%fd, Hd⟩, ⟨%W, HO⟩, HtS, HtR⟩ Hk
  ihave #HIS := (records_inv m κ (c, kS)) $$ HR
  ihave #HIR := (records_inv m κ (n, kR)) $$ HR
  ihave #HrS := (records_reached m κ (c, kS)) $$ HR
  ihave #HrR := (records_reached m κ (n, kR)) $$ HR
  rw [ht]
  iapply (Rounds.wp_send_pointsTo 𝒱₀ ER (rd m) (c : Thread nD τ) none (c' := (n : Thread nD τ)) (κ₁ := κ (c, kS)) (κ₂ := κ (n, kR)) (r₁ := 0) (r₂ := 0)
    (d₁ := 0) (d₂ := 0) (sS := semOf kS) (sem := semOf kR) (src := src) (dst := dst) (hsc := hsc) (hsrc := hsrc) (hdst := hdst) (hsem := hsem) (fs := fs) (fd := fd) (q := q)
    (by rw [rd_duties m (c, kS)]; exact hdS) (by rw [rd_duties m (n, kR)]; exact hdR)
    () () (amt kR) hN ((rd_amount m (c, kS) 0).trans hN') (rd_amount m (n, kR) 0) (tl l) rfl (W := W)
    (by rw [rd_payload m (c, kS) 0, hpS, ← hfs]; exact owns_intro _ _ _ _)
    (by
      rw [rd_payload m (n, kR) 0, hpR, ← hfs]
      unfold own owns
      iintro H; iexists _
      isplitr [H]
      swap
      · iexact H
      ipureintro; exact View.read_write_univ _ _)) $$ [Hs Hd HO HtS HtR]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · rw [hN']; iexact Hc
  iexists W; iexact HO

/-! ## Loads and stores -/

/-- A buffer that holds anything, from one that holds something. -/
theorem own_any (c : Dev nD) {sp : Space} {s : Shape} {e : EltTy} (M : Memref sig .tc sp s e) (X : s.Idx → Elt F e) :
    own c M fullShare X ⊢ anyOf c M := by
  unfold own owns anyOf
  iintro ⟨%f, -, H⟩
  iexists f; iexact H

/-- A load of a whole memref. -/
theorem load_own {α : Type} {Q : α → sProp 𝕄} (c : Dev nD) {s : Shape} {e : EltTy} {M : Memref sig .tc .vmem s e} {off : Fin s.rank → ℕ}
    {inb : ∀ a, off a + s.size a ≤ s.size a} (hz : off = fun _ => 0) {hl : M.view.LoadsAt (Rect.unit off s.size inb).toLoadRect}
    {q : PosShare TreeShare} {X : s.Idx → Elt F e} {kk : (s.Idx → Elt F e) → Prog (TpuEff nD τ sig (Elt F) Λ₀ .tc) α} :
    own c M q X ⊢ iprop((own c M q X -∗ wpb c (kk X) Q) -∗ wpb c (.op (.load M (Rect.unit off s.size inb).toLoadRect hl) kk) Q) := by
  subst hz
  unfold own owns
  iintro ⟨%f, %hf, H⟩ Hk
  have hr : M.view.readAt (Elt F) (Rect.unit (fun _ => 0) s.size inb).toLoadRect f = X := by
    rw [← hf]; funext i; rw [View.readAt_apply]; congr 1
    funext a; apply Fin.ext; simp [Rect.toLoadRect, Rect.unit, LoadRect.idx]
  iapply (wp_load 𝒱₀ (c : Thread nD τ) none Set.univ (m := M) (View.setOn_subset_set _ _)) $$ H
  iintro H
  rw [hr]
  iapply Hk
  iexists f; isplitr; · ipureintro; exact hf
  iexact H

/-- A load of a whole memref that holds anything: the program goes on whatever was read. -/
theorem load_any {α : Type} {Q : α → sProp 𝕄} (c : Dev nD) {s : Shape} {e : EltTy} {M : Memref sig .tc .vmem s e} {r : LoadRect s} {hl : M.view.LoadsAt r}
    {kk : (r.shape.Idx → Elt F e) → Prog (TpuEff nD τ sig (Elt F) Λ₀ .tc) α} :
    anyOf c M ⊢ iprop((∀ v, anyOf c M -∗ wpb c (kk v) Q) -∗ wpb c (.op (.load M r hl) kk) Q) := by
  unfold anyOf
  iintro ⟨%f, H⟩ Hk
  iapply (wp_load 𝒱₀ (c : Thread nD τ) none Set.univ (m := M) (View.setOn_subset_set _ _)) $$ H
  iintro H
  iapply Hk $$ %(M.view.readAt (Elt F) r f)
  iexists f; iexact H

/-- A store of a whole memref. -/
theorem store_any {α : Type} {Q : α → sProp 𝕄} (c : Dev nD) {s : Shape} {e : EltTy} {M : Memref sig .tc .vmem s e} {off : Fin s.rank → ℕ}
    {inb : ∀ a, off a + s.size a ≤ s.size a} (hz : off = fun _ => 0) {w : s.Idx → Elt F e}
    {hx : (M.access (Rect.unit off s.size inb)).Stores Finset.univ} {hm : Finset.univ = Finset.univ ∨ ∀ a, (Rect.unit off s.size inb).stride a = 1}
    {kk : PUnit → Prog (TpuEff nD τ sig (Elt F) Λ₀ .tc) α} :
    anyOf c M ⊢ iprop((own c M fullShare w -∗ wpb c (kk ⟨⟩) Q) -∗ wpb c (.op (.store M (Rect.unit off s.size inb) w Finset.univ hx hm) kk) Q) := by
  subst hz
  unfold own owns anyOf
  iintro ⟨%f, H⟩ Hk
  iapply (wp_store 𝒱₀ (c : Thread nD τ) none Set.univ (m := M) (r := Rect.unit (fun _ => 0) s.size inb) (w := w) (Mk := Finset.univ) (hx := hx) (hm := hm)
    (View.set_slice_subset _ _)) $$ H
  iintro H
  iapply Hk
  iexists _
  isplitr [H]
  swap
  · iexact H
  ipureintro
  have h := View.read_write_univ (Val := Elt F) (v := M.view.slice (Rect.unit (fun _ => 0) s.size inb)) f w
  funext i
  have hi := congrFun h i
  rw [View.read_apply] at hi ⊢
  have : (M.view.slice (Rect.unit (fun _ => 0) s.size inb)).emb i = M.view.emb i := by
    show M.view.emb ((Rect.unit (fun _ => 0) s.size inb).emb i) = _
    rw [Rect.emb_unit_full]
  rw [this] at hi
  exact hi

/-- A load of a slot of a buffer through the buffer. -/
theorem load_slot {α : Type} {Q : α → sProp 𝕄} (c : Dev nD) {s s' : Shape} {e : EltTy} {M : Memref sig .tc .vmem s e} {r : Rect s} {hr : ∀ a, r.stride a = 1}
    {hq : r.shape.Squeezes s'} (h : s'.ShapeCasts r.shape)
    {hl : M.view.LoadsAt r.toLoadRect} {q : PosShare TreeShare} {X : s'.Idx → Elt F e} {kk : (r.shape.Idx → Elt F e) → Prog (TpuEff nD τ sig (Elt F) Λ₀ .tc) α} :
    own c ((M.slice r hr).squeeze s' hq) q X
      ⊢ iprop((own c ((M.slice r hr).squeeze s' hq) q X -∗ wpb c (kk (shapeCast r.shape X h)) Q) -∗ wpb c (.op (.load M r.toLoadRect hl) kk) Q) := by
  unfold own owns
  iintro ⟨%f, %hf, H⟩ Hk
  have hrd : M.view.readAt (Elt F) r.toLoadRect f = shapeCast r.shape X h := by
    rw [← hf]; funext i
    rw [View.readAt_rect]
    show (M.view.slice r).read (Elt F) f i = ((M.view.slice r).reshape s' hq.numel_eq).read (Elt F) f (Shape.reshapeEquiv h i)
    rw [View.read_apply, View.read_apply]
    show _ = _root_.cast _ (f ((M.view.slice r).emb (Shape.reshapeEquiv hq.numel_eq (Shape.reshapeEquiv h i))))
    rw [Shape.reshapeEquiv_reshapeEquiv, Shape.reshapeEquiv_self]
  iapply (wp_load 𝒱₀ (c : Thread nD τ) none Set.univ (m := M) (S := (((M.slice r hr).squeeze s' hq).view.set))
    (by show M.view.setOn r.toLoadRect.set ⊆ ((M.view.slice r).reshape s' hq.numel_eq).set
        rw [View.set_reshape, View.set_slice]
        exact Finset.Subset.refl _)) $$ H
  iintro H
  rw [hrd]
  iapply Hk
  iexists f; isplitr; · ipureintro; exact hf
  iexact H

/-- A load of a slot that holds anything. -/
theorem load_any_slot {α : Type} {Q : α → sProp 𝕄} (c : Dev nD) {s s' : Shape} {e : EltTy} {M : Memref sig .tc .vmem s e} {r : Rect s} {hr : ∀ a, r.stride a = 1}
    {hq : r.shape.Squeezes s'} {hl : M.view.LoadsAt r.toLoadRect} {kk : (r.shape.Idx → Elt F e) → Prog (TpuEff nD τ sig (Elt F) Λ₀ .tc) α} :
    anyOf c ((M.slice r hr).squeeze s' hq)
      ⊢ iprop((∀ v, anyOf c ((M.slice r hr).squeeze s' hq) -∗ wpb c (kk v) Q) -∗ wpb c (.op (.load M r.toLoadRect hl) kk) Q) := by
  unfold anyOf
  iintro ⟨%f, H⟩ Hk
  iapply (wp_load 𝒱₀ (c : Thread nD τ) none Set.univ (m := M) (S := (((M.slice r hr).squeeze s' hq).view.set))
    (by show M.view.setOn r.toLoadRect.set ⊆ ((M.view.slice r).reshape s' hq.numel_eq).set
        rw [View.set_reshape, View.set_slice]
        exact Finset.Subset.refl _)) $$ H
  iintro H
  iapply Hk $$ %(M.view.readAt (Elt F) r.toLoadRect f)
  iexists f; iexact H

/-- A store of a slot of a buffer through the buffer. -/
theorem store_slot {α : Type} {Q : α → sProp 𝕄} (c : Dev nD) {s s' : Shape} {e : EltTy} {M : Memref sig .tc .vmem s e} {r : Rect s} {hr : ∀ a, r.stride a = 1}
    {hq : r.shape.Squeezes s'} (h : r.shape.ShapeCasts s') {w : r.shape.Idx → Elt F e}
    {hx : (M.access r).Stores Finset.univ} {hm : Finset.univ = Finset.univ ∨ ∀ a, r.stride a = 1}
    {kk : PUnit → Prog (TpuEff nD τ sig (Elt F) Λ₀ .tc) α} :
    anyOf c ((M.slice r hr).squeeze s' hq)
      ⊢ iprop((own c ((M.slice r hr).squeeze s' hq) fullShare (shapeCast s' w h) -∗ wpb c (kk ⟨⟩) Q) -∗ wpb c (.op (.store M r w Finset.univ hx hm) kk) Q) := by
  unfold own owns anyOf
  iintro ⟨%f, H⟩ Hk
  iapply (wp_store 𝒱₀ (c : Thread nD τ) none Set.univ (m := M) (r := r) (w := w) (Mk := Finset.univ) (hx := hx) (hm := hm)
    (S := (((M.slice r hr).squeeze s' hq).view.set))
    (by show (M.view.slice r).set ⊆ ((M.view.slice r).reshape s' hq.numel_eq).set
        rw [View.set_reshape])) $$ H
  iintro H
  iapply Hk
  iexists _
  isplitr [H]
  swap
  · iexact H
  ipureintro
  funext i
  exact congrFun (View.read_write_univ (Val := Elt F) (v := M.view.slice r) f w) (Shape.reshapeEquiv h i)

end Cert.KernelIdealProof
-- ==== Proof.KernelIdeal.Stage.lean ====
/-
# Staging the expert weights

The device copies its weights from HBM piece by piece through two slots, narrows each piece, and keeps it in VMEM. Piece
`p` of the sixteen goes through slot `p % 2`; `filled` says how far an array of kept weights has got.
-/
module

public import proofs.«01_k».proof.Proof.KernelIdeal.Steps
public import Idealize.ShloMosaic.Lib.VecWindow

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

/-! ## The parts of the body, on the buffers and semaphores of the call -/

section
variable (F)
abbrev p1 := k0_part1 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p2 := k0_part2 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p3 := k0_part3 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p4 := k0_part4 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p5 := k0_part5 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p6 := k0_part6 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p7 := k0_part7 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p8 := k0_part8 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p9 := k0_part9 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p10 := k0_part10 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p11 := k0_part11 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p12 := k0_part12 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p13 := k0_part13 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p14 := k0_part14 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p15 := k0_part15 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p16 := k0_part16 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p17 := k0_part17 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p18 := k0_part18 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p19 := k0_part19 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p20 := k0_part20 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p21 := k0_part21 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p22 := k0_part22 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p23 := k0_part23 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
abbrev p24 := k0_part24 (F := F) xM (Memref.isWhole_whole _) rM (Memref.isWhole_whole _) w1M (Memref.isWhole_whole _) w2M (Memref.isWhole_whole _) oM (Memref.isWhole_whole _) rgM (Memref.isWhole_whole _) xbM (Memref.isWhole_whole _) psM (Memref.isWhole_whole _) prM (Memref.isWhole_whole _) pxM (Memref.isWhole_whole _) sxM (Memref.isWhole_whole _) pyM (Memref.isWhole_whole _) stM (Memref.isWhole_whole _) w1cM (Memref.isWhole_whole _) w2cM (Memref.isWhole_whole _) cc0_scratch10 cc0_scratch11 cc0_scratch12 cc0_scratch13 cc0_scratch14 cc0_scratch15 cc0_scratch16 cc0_scratch17 cc0_scratch18 cc0_scratch19 cc0_scratch20 cc0_scoped0
end

/-! ## Fetching a piece -/

/-- The two slots the pieces go through. -/
abbrev st0 : Memref sig .tc .vmem S1024x1024 .f32 := (stM.slice (Rect.unit (s := S2x1024x1024) ![0, 0, 0] S1x1024x1024.size inb_S2x1024x1024_S1x1024x1024_0_0_0) (fun _ => rfl)).squeeze S1024x1024 squeezes_S1x1024x1024_S1024x1024
abbrev st1 : Memref sig .tc .vmem S1024x1024 .f32 := (stM.slice (Rect.unit (s := S2x1024x1024) ![1, 0, 0] S1x1024x1024.size inb_S2x1024x1024_S1x1024x1024_1_0_0) (fun _ => rfl)).squeeze S1024x1024 squeezes_S1x1024x1024_S1024x1024

/-- A copy into `dst` is in flight: at its wait `dst` reads `X` and `P` comes back. -/
def fetching (c : Dev nD) (sem : DmaSem sig) {sp : Space} {s : Shape} {e : EltTy} (dst : Memref sig .tc sp s e) (X : s.Idx → Elt F e) (P : sProp 𝕄) : sProp 𝕄 :=
  iprop(∃ D, Transfers.Flight (EC (F := F)) (c : Thread nD τ) (.dma sem) () dst.view.dmaCredit D ∗ (D -∗ (own c dst fullShare X ∗ P)))

/-- A local copy of a slice of an array into a buffer. -/
theorem step_fetch {α : Type} {Q : α → sProp 𝕄} (c : Dev nD) {sem : DmaSem sig} {sp : Space} {s s' : Shape} {e : EltTy} {W : Memref sig .tc .hbm s e} {r : Rect s}
    {hr : ∀ a, r.stride a = 1} {hq : r.shape.Squeezes s'} {dst : Memref sig .tc sp s' e}
    {hsrc : ((W.slice r hr).squeeze s' hq).view.WordExact} {hdst : dst.view.WordExact} {hsem : DmaTarget.Typed (nD := nD) (τ := τ) (p := .tc) .hbm (.dma sem) (.here dst)}
    (hpos : 0 < s'.numel) {q : PosShare TreeShare} {Y : s.Idx → Elt F e} {k : PUnit → Prog (TpuEff nD τ sig (Elt F) Λ₀ .tc) α} :
    iprop(own c W q Y ∗ anyOf c dst ∗ semVal ((c : Thread nD τ), SemLoc.dma sem) 0)
      ⊢ iprop((fetching c sem dst (fun i => Y (r.emb (Shape.reshapeEquiv hq.numel_eq i))) (own c W q Y) -∗ wpb c (k ⟨⟩) Q)
          -∗ wpb c (.op (.enqueueDma ((W.slice r hr).squeeze s' hq) (.here dst) (.dma sem) hsrc hdst hsem) k) Q) := by
  unfold fetching own owns anyOf
  iintro ⟨⟨%f, %hf, Hs⟩, ⟨%fd, Hd⟩, Hv⟩ Hk
  have hsub : ((W.slice r hr).squeeze s' hq).view.set ⊆ W.view.set := by
    show ((W.view.slice r).reshape s' hq.numel_eq).set ⊆ _
    rw [View.set_reshape]; exact View.set_slice_subset _ _
  ihave Hs' := (pointsTo_split_subset (q := q) (f := f) hsub).1 $$ Hs
  icases Hs' with ⟨Hs, Hrest⟩
  iapply (Transfers.wp_dmaLocal (EC (F := F)) 𝒱₀ (c : Thread nD τ) none (src := (W.slice r hr).squeeze s' hq) (dst := dst) (sm := .dma sem) (hsem := hsem)
    (Sd := dst.view.set) (fd := fd) (fs := f) (q := q) () dst.view.dmaCredit rfl (View.dmaCredit_pos _ hpos) (Finset.Subset.refl _)) $$ [Hs Hd Hv]
  · isplitl [Hs]; · iexact Hs
    isplitl [Hd]; · iexact Hd
    iexact Hv
  iintro HF
  iapply Hk
  iexists _
  isplitl [HF]; · iexact HF
  iintro ⟨Hd, Hs⟩
  isplitl [Hd]
  · iexists _
    isplitr [Hd]
    swap
    · iexact Hd
    ipureintro
    rw [View.read_write_univ, ← hf]
    rfl
  iexists f
  isplitr; · ipureintro; exact hf
  iapply (pointsTo_split_subset (q := q) (f := f) hsub).2
  isplitl [Hs]; · iexact Hs
  iexact Hrest

/-- The wait for it. -/
theorem step_fetched {α : Type} {Q : α → sProp 𝕄} (c : Dev nD) {sem : DmaSem sig} {sp sp' : Space} {s s' : Shape} {e e' : EltTy} {srcw : Memref sig .tc sp' s' e'}
    {dst : Memref sig .tc sp s e} {hsrc : srcw.view.WordExact} {hdst : dst.view.WordExact} {l : List (Dev nD × K)}
    (hk : kindOf (.dma sem) = none) (hl : ∀ e ∈ l, 0 < klev e.2) {X : s.Idx → Elt F e} {P : sProp 𝕄}
    {kk : PUnit → Prog (TpuEff nD τ sig (Elt F) Λ₀ .tc) α} :
    iprop(levAts L lv ∗ fetching c sem dst X P ∗ ow c l)
      ⊢ iprop((iprop(own c dst fullShare X ∗ P ∗ semVal ((c : Thread nD τ), SemLoc.dma sem) 0 ∗ ow c l) -∗ wpb c (kk ⟨⟩) Q)
          -∗ wpb c (.op (.waitDma2 sem srcw dst hsrc hdst) kk) Q) := by
  unfold fetching ow
  iintro ⟨#HL, ⟨%D, HF, HD⟩, ⟨%W, HO⟩⟩ Hk
  iapply (Transfers.wp_waitLocalO (EC (F := F)) 𝒱₀ (c : Thread nD τ) none (srcw := srcw) (dstw := dst) () rfl (D := D) (O := tl l) (W := W)) $$ [HF HO]
  · isplitl [HF]; · iexact HF
    isplitl [HO]; · iexact HO
    iapply (mayWait c (.dma sem) 0 l (le_of_eq (by unfold lv; rw [hk])) hl); iexact HL
  iintro ⟨HD', Hv, HO⟩
  iapply Hk
  ihave HP := HD $$ HD'
  icases HP with ⟨HX, HP⟩
  isplitl [HX]; · iexact HX
  isplitl [HP]; · iexact HP
  isplitl [Hv]; · iexact Hv
  iexists _; iexact HO

/-! ## Keeping a piece -/

/-- The pieces of the array numbered below `n` hold what `T` says. -/
def filled (c : Dev nD) {s : Shape} {e : EltTy} (M : Memref sig .tc .vmem s e) (piece : s.Idx → ℕ) (T : s.Idx → Elt F e) (n : ℕ) : sProp 𝕄 :=
  iprop(∃ f, ⌜∀ i, piece i < n → M.view.read (Elt F) f i = T i⌝ ∗ (M.view.loc (c : Thread nD τ) ↦[M.view.set]{fullShare} f))

theorem load_filled {α : Type} {Q : α → sProp 𝕄} (c : Dev nD) {s : Shape} {e : EltTy} {M : Memref sig .tc .vmem s e} {r : LoadRect s} {hl : M.view.LoadsAt r}
    {piece : s.Idx → ℕ} {T : s.Idx → Elt F e} {n : ℕ} {kk : (r.shape.Idx → Elt F e) → Prog (TpuEff nD τ sig (Elt F) Λ₀ .tc) α} :
    filled c M piece T n ⊢ iprop((∀ v, filled c M piece T n -∗ wpb c (kk v) Q) -∗ wpb c (.op (.load M r hl) kk) Q) := by
  unfold filled
  iintro ⟨%f, %hf, H⟩ Hk
  iapply (wp_load 𝒱₀ (c : Thread nD τ) none Set.univ (m := M) (View.setOn_subset_set _ _)) $$ H
  iintro H
  iapply Hk $$ %(M.view.readAt (Elt F) r f)
  iexists f
  isplitr; · ipureintro; exact hf
  iexact H

/-- A store of the next piece. -/
theorem store_filled {α : Type} {Q : α → sProp 𝕄} (c : Dev nD) {s : Shape} {e : EltTy} {M : Memref sig .tc .vmem s e} {r : Rect s} {w : r.shape.Idx → Elt F e}
    {hx : (M.access r).Stores Finset.univ} {hm : Finset.univ = Finset.univ ∨ ∀ a, r.stride a = 1}
    {piece : s.Idx → ℕ} {T : s.Idx → Elt F e} (n : ℕ) (hw : ∀ x, w x = T (r.emb x)) (hp : ∀ i, piece i = n → ∃ x, r.emb x = i)
    {kk : PUnit → Prog (TpuEff nD τ sig (Elt F) Λ₀ .tc) α} :
    filled c M piece T n ⊢ iprop((filled c M piece T (n + 1) -∗ wpb c (kk ⟨⟩) Q) -∗ wpb c (.op (.store M r w Finset.univ hx hm) kk) Q) := by
  unfold filled
  iintro ⟨%f, %hf, H⟩ Hk
  iapply (wp_store 𝒱₀ (c : Thread nD τ) none Set.univ (m := M) (r := r) (w := w) (Mk := Finset.univ) (hx := hx) (hm := hm)
    (View.set_slice_subset _ _)) $$ H
  iintro H
  iapply Hk
  iexists _
  isplitr [H]
  swap
  · iexact H
  ipureintro
  intro i hi
  by_cases h : ∃ x, r.emb x = i
  · obtain ⟨x, rfl⟩ := h
    rw [← hw x]
    exact View.read_slice_write_emb (v := M.view) (Val := Elt F) r f w (Finset.mem_univ x)
  · have hn : i ∉ (Finset.univ : Finset r.shape.Idx).map r.emb := by
      intro hm; obtain ⟨x, -, hx⟩ := Finset.mem_map.mp hm; exact h ⟨x, hx⟩
    have h1 := View.read_slice_write_of_not_mem (v := M.view) (Val := Elt F) r f w Finset.univ hn
    refine h1.trans (hf i ?_)
    rcases Nat.lt_or_ge (piece i) n with h2 | h2
    · exact h2
    · exact absurd (hp i (by omega)) h

theorem filled_zero (c : Dev nD) {s : Shape} {e : EltTy} (M : Memref sig .tc .vmem s e) (piece : s.Idx → ℕ) (T : s.Idx → Elt F e) :
    anyOf c M ⊢ filled c M piece T 0 := by
  unfold anyOf filled
  iintro ⟨%f, H⟩
  iexists f
  isplitr; · ipureintro; exact fun i h => absurd h (Nat.not_lt_zero _)
  iexact H

theorem filled_all (c : Dev nD) {s : Shape} {e : EltTy} (M : Memref sig .tc .vmem s e) (piece : s.Idx → ℕ) (T : s.Idx → Elt F e) (n : ℕ) (h : ∀ i, piece i < n) :
    filled c M piece T n ⊢ own c M fullShare T := by
  unfold own owns filled
  iintro ⟨%f, %hf, H⟩
  iexists f
  isplitr; · ipureintro; exact funext fun i => hf i (h i)
  iexact H

end Cert.KernelIdealProof
-- ==== Proof.KernelIdeal.Weights.lean ====
/-
# The weights staged: the sixteen pieces in order
-/
module

public import proofs.«01_k».proof.Proof.KernelIdeal.Stage
public import Idealize.ShloMosaic.Lib.VecWindow

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

/-! ## One piece -/

/-- The number of the piece of the first weights an index lies in, and of the second. -/
def pc1 (i : S4x1024x2048.Idx) : ℕ := 2 * (i 0).val + (i 2).val / 1024
def pc2 (i : S4x2048x1024.Idx) : ℕ := 2 * (i 0).val + (i 1).val / 1024

theorem pc1_lt (i : S4x1024x2048.Idx) : pc1 i < 8 := by
  have h0 : (i 0).val < 4 := (i 0).isLt
  have h2 : (i 2).val < 2048 := (i 2).isLt
  unfold pc1; omega
theorem pc2_lt (i : S4x2048x1024.Idx) : pc2 i < 8 := by
  have h0 : (i 0).val < 4 := (i 0).isLt
  have h1 : (i 1).val < 2048 := (i 1).isLt
  unfold pc2; omega

/-- The kept weights of a device, `n` pieces done. -/
abbrev kept1 (c : Dev nD) (n : ℕ) : sProp 𝕄 := filled c w1cM pc1 (w1t m c) n
abbrev kept2 (c : Dev nD) (n : ℕ) : sProp 𝕄 := filled c w2cM pc2 (w2t m c) n

/-- A piece of the weights, as a slot receives it. -/
abbrev src1 (c : Dev nD) (o : Fin 3 → ℕ) (h : ∀ a, o a + S1x1024x1024.size a ≤ S4x1024x2048.size a) : S1024x1024.Idx → Elt F .f32 :=
  fun i => w1 m c ((Rect.unit (s := S4x1024x2048) o S1x1024x1024.size h).emb (Shape.reshapeEquiv squeezes_S1x1024x1024_S1024x1024.numel_eq i))
abbrev src2 (c : Dev nD) (o : Fin 3 → ℕ) (h : ∀ a, o a + S1x1024x1024.size a ≤ S4x2048x1024.size a) : S1024x1024.Idx → Elt F .f32 :=
  fun i => w2 m c ((Rect.unit (s := S4x2048x1024) o S1x1024x1024.size h).emb (Shape.reshapeEquiv squeezes_S1x1024x1024_S1024x1024.numel_eq i))

/-- Narrowing a piece is narrowing every word of it. -/
theorem narrow_apply (v : Vec F S1x1024x1024 .f32) (x : S1x1024x1024.Idx) :
    k0_pay3 v x = truncf (s := S1x1024x1024) .bf16 v bitsLt_bf16_f32 x := by
  show truncf (s := S1x1024x1024) .bf16 (fun y => v (Shape.reshapeEquiv shapeCasts_S1x1024x1024_S1024x1024 (Shape.reshapeEquiv shapeCasts_S1024x1024_S1x1024x1024 y))) bitsLt_bf16_f32 x = _
  simp only [Shape.reshapeEquiv_reshapeEquiv, Shape.reshapeEquiv_self]

theorem kept1_word (c : Dev nD) (o : Fin 3 → ℕ) (h : ∀ a, o a + S1x1024x1024.size a ≤ S4x1024x2048.size a) (x : S1x1024x1024.Idx) :
    k0_pay3 (shapeCast S1x1024x1024 (src1 m c o h) shapeCasts_S1024x1024_S1x1024x1024) x = w1t m c ((Rect.unit (s := S4x1024x2048) o S1x1024x1024.size h).emb x) := by
  rw [narrow_apply]
  show truncf (s := S4x1024x2048) .bf16 (w1 m c) bitsLt_bf16_f32 ((Rect.unit (s := S4x1024x2048) o S1x1024x1024.size h).emb
    (Shape.reshapeEquiv squeezes_S1x1024x1024_S1024x1024.numel_eq (Shape.reshapeEquiv shapeCasts_S1024x1024_S1x1024x1024 x))) = _
  rw [Shape.reshapeEquiv_reshapeEquiv, Shape.reshapeEquiv_self]
  rfl
theorem pc1_mem (n : ℕ) (o : Fin 3 → ℕ) (h : ∀ a, o a + S1x1024x1024.size a ≤ S4x1024x2048.size a)
    (ho : o 0 = n / 2 ∧ o 1 = 0 ∧ o 2 = n % 2 * 1024) (i : S4x1024x2048.Idx) (hi : pc1 i = n) :
    ∃ x, (Rect.unit (s := S4x1024x2048) o S1x1024x1024.size h).emb x = i := by
  have hb1 : (i 1).val < 1024 := (i 1).isLt
  have hb2 : (i 2).val < 2048 := (i 2).isLt
  obtain ⟨o0, o1, o2⟩ := ho
  unfold pc1 at hi
  have key : ∀ a : Fin 3, o a ≤ (i a).val ∧ (i a).val < o a + S1x1024x1024.size a := by
    intro a
    fin_cases a
    · show o 0 ≤ (i 0).val ∧ (i 0).val < o 0 + 1; omega
    · show o 1 ≤ (i 1).val ∧ (i 1).val < o 1 + 1024; omega
    · show o 2 ≤ (i 2).val ∧ (i 2).val < o 2 + 1024; omega
  refine ⟨fun a => ⟨(i a).val - o a, by have := key a; show _ < S1x1024x1024.size a; omega⟩, ?_⟩
  funext a
  apply Fin.ext
  show o a + 1 * ((i a).val - o a) = (i a).val
  have := key a; omega

theorem kept2_word (c : Dev nD) (o : Fin 3 → ℕ) (h : ∀ a, o a + S1x1024x1024.size a ≤ S4x2048x1024.size a) (x : S1x1024x1024.Idx) :
    k0_pay3 (shapeCast S1x1024x1024 (src2 m c o h) shapeCasts_S1024x1024_S1x1024x1024) x = w2t m c ((Rect.unit (s := S4x2048x1024) o S1x1024x1024.size h).emb x) := by
  rw [narrow_apply]
  show truncf (s := S4x2048x1024) .bf16 (w2 m c) bitsLt_bf16_f32 ((Rect.unit (s := S4x2048x1024) o S1x1024x1024.size h).emb
    (Shape.reshapeEquiv squeezes_S1x1024x1024_S1024x1024.numel_eq (Shape.reshapeEquiv shapeCasts_S1024x1024_S1x1024x1024 x))) = _
  rw [Shape.reshapeEquiv_reshapeEquiv, Shape.reshapeEquiv_self]
  rfl
theorem pc2_mem (n : ℕ) (o : Fin 3 → ℕ) (h : ∀ a, o a + S1x1024x1024.size a ≤ S4x2048x1024.size a)
    (ho : o 0 = n / 2 ∧ o 2 = 0 ∧ o 1 = n % 2 * 1024) (i : S4x2048x1024.Idx) (hi : pc2 i = n) :
    ∃ x, (Rect.unit (s := S4x2048x1024) o S1x1024x1024.size h).emb x = i := by
  have hb1 : (i 2).val < 1024 := (i 2).isLt
  have hb2 : (i 1).val < 2048 := (i 1).isLt
  obtain ⟨o0, o1, o2⟩ := ho
  unfold pc2 at hi
  have key : ∀ a : Fin 3, o a ≤ (i a).val ∧ (i a).val < o a + S1x1024x1024.size a := by
    intro a
    fin_cases a
    · show o 0 ≤ (i 0).val ∧ (i 0).val < o 0 + 1; omega
    · show o 1 ≤ (i 1).val ∧ (i 1).val < o 1 + 1024; omega
    · show o 2 ≤ (i 2).val ∧ (i 2).val < o 2 + 1024; omega
  refine ⟨fun a => ⟨(i a).val - o a, by have := key a; show _ < S1x1024x1024.size a; omega⟩, ?_⟩
  funext a
  apply Fin.ext
  show o a + 1 * ((i a).val - o a) = (i a).val
  have := key a; omega

/-- A slot of the staging buffer. -/
abbrev slot (o : Fin 3 → ℕ) (h : ∀ a, o a + S1x1024x1024.size a ≤ S2x1024x1024.size a) : Memref sig .tc .vmem S1024x1024 .f32 :=
  (stM.slice (Rect.unit (s := S2x1024x1024) o S1x1024x1024.size h) (fun _ => rfl)).squeeze S1024x1024 squeezes_S1x1024x1024_S1024x1024

/-- A piece of the first weights: wait for the slot, read it, and keep it narrowed. -/
theorem piece1 {α : Type} {Q : α → sProp 𝕄} (c : Dev nD) (n : ℕ) {sem : DmaSem sig} {sp' : Space} {s' : Shape} {e' : EltTy} {srcw : Memref sig .tc sp' s' e'}
    {o0 : Fin 3 → ℕ} {h0 : ∀ a, o0 a + S1x1024x1024.size a ≤ S2x1024x1024.size a}
    {hsrc : srcw.view.WordExact} {hdst : (slot o0 h0).view.WordExact} {l : List (Dev nD × K)}
    {o : Fin 3 → ℕ} {h : ∀ a, o a + S1x1024x1024.size a ≤ S4x1024x2048.size a} {P : sProp 𝕄}
    {hl0 : stM.view.LoadsAt (Rect.unit (s := S2x1024x1024) o0 S1x1024x1024.size h0).toLoadRect} {hl1 : w1cM.view.LoadsAt (Rect.unit (s := S4x1024x2048) o S1x1024x1024.size h).toLoadRect}
    {pay : Vec F S1x1024x1024 .f32 → FVec F S1x1024x1024 .bf16}
    {hx : (w1cM.access (Rect.unit (s := S4x1024x2048) o S1x1024x1024.size h)).Stores Finset.univ} {hm}
    {kk : PUnit → Prog (TpuEff nD τ sig (Elt F) Λ₀ .tc) α}
    (hk : kindOf (.dma sem) = none) (hl : ∀ e ∈ l, 0 < klev e.2) (hpay : ∀ v, pay v = k0_pay3 v)
    (ho : o 0 = n / 2 ∧ o 1 = 0 ∧ o 2 = n % 2 * 1024) :
    iprop(levAts L lv ∗ fetching c sem (slot o0 h0) (src1 m c o h) P ∗ ow c l ∗ kept1 m c n)
      ⊢ iprop((iprop(P ∗ anyOf c (slot o0 h0) ∗ semVal ((c : Thread nD τ), SemLoc.dma sem) 0 ∗ ow c l ∗ kept1 m c (n + 1)) -∗ wpb c (kk ⟨⟩) Q)
          -∗ wpb c (.op (.waitDma2 sem srcw (slot o0 h0) hsrc hdst) fun _ =>
              .op (.load stM (Rect.unit (s := S2x1024x1024) o0 S1x1024x1024.size h0).toLoadRect hl0) fun v =>
              .op (.load w1cM (Rect.unit (s := S4x1024x2048) o S1x1024x1024.size h).toLoadRect hl1) fun _ =>
              .op (.store w1cM (Rect.unit (s := S4x1024x2048) o S1x1024x1024.size h) (pay v) Finset.univ hx hm) kk) Q) := by
  iintro ⟨#HL, HF, HO, HK⟩ Hk
  iapply (step_fetched c hk hl) $$ [HF HO]
  · isplitr; · iexact HL
    isplitl [HF]; · iexact HF
    iexact HO
  iintro ⟨HX, HP, Hv, HO⟩
  iapply (load_slot c shapeCasts_S1024x1024_S1x1024x1024) $$ HX; iintro HX
  iapply (load_filled c) $$ HK; iintro %_ HK
  rw [hpay]
  iapply (store_filled (T := w1t m c) c n (kept1_word m c o h) (pc1_mem n o h ho)) $$ HK
  iintro HK
  iapply Hk
  isplitl [HP]; · iexact HP
  isplitl [HX]; · iapply (own_any c _ _) $$ HX
  isplitl [Hv]; · iexact Hv
  isplitl [HO]; · iexact HO
  iexact HK

/-- A piece of the second weights: wait for the slot, read it, and keep it narrowed. -/
theorem piece2 {α : Type} {Q : α → sProp 𝕄} (c : Dev nD) (n : ℕ) {sem : DmaSem sig} {sp' : Space} {s' : Shape} {e' : EltTy} {srcw : Memref sig .tc sp' s' e'}
    {o0 : Fin 3 → ℕ} {h0 : ∀ a, o0 a + S1x1024x1024.size a ≤ S2x1024x1024.size a}
    {hsrc : srcw.view.WordExact} {hdst : (slot o0 h0).view.WordExact} {l : List (Dev nD × K)}
    {o : Fin 3 → ℕ} {h : ∀ a, o a + S1x1024x1024.size a ≤ S4x2048x1024.size a} {P : sProp 𝕄}
    {hl0 : stM.view.LoadsAt (Rect.unit (s := S2x1024x1024) o0 S1x1024x1024.size h0).toLoadRect} {hl1 : w2cM.view.LoadsAt (Rect.unit (s := S4x2048x1024) o S1x1024x1024.size h).toLoadRect}
    {pay : Vec F S1x1024x1024 .f32 → FVec F S1x1024x1024 .bf16}
    {hx : (w2cM.access (Rect.unit (s := S4x2048x1024) o S1x1024x1024.size h)).Stores Finset.univ} {hm}
    {kk : PUnit → Prog (TpuEff nD τ sig (Elt F) Λ₀ .tc) α}
    (hk : kindOf (.dma sem) = none) (hl : ∀ e ∈ l, 0 < klev e.2) (hpay : ∀ v, pay v = k0_pay3 v)
    (ho : o 0 = n / 2 ∧ o 2 = 0 ∧ o 1 = n % 2 * 1024) :
    iprop(levAts L lv ∗ fetching c sem (slot o0 h0) (src2 m c o h) P ∗ ow c l ∗ kept2 m c n)
      ⊢ iprop((iprop(P ∗ anyOf c (slot o0 h0) ∗ semVal ((c : Thread nD τ), SemLoc.dma sem) 0 ∗ ow c l ∗ kept2 m c (n + 1)) -∗ wpb c (kk ⟨⟩) Q)
          -∗ wpb c (.op (.waitDma2 sem srcw (slot o0 h0) hsrc hdst) fun _ =>
              .op (.load stM (Rect.unit (s := S2x1024x1024) o0 S1x1024x1024.size h0).toLoadRect hl0) fun v =>
              .op (.load w2cM (Rect.unit (s := S4x2048x1024) o S1x1024x1024.size h).toLoadRect hl1) fun _ =>
              .op (.store w2cM (Rect.unit (s := S4x2048x1024) o S1x1024x1024.size h) (pay v) Finset.univ hx hm) kk) Q) := by
  iintro ⟨#HL, HF, HO, HK⟩ Hk
  iapply (step_fetched c hk hl) $$ [HF HO]
  · isplitr; · iexact HL
    isplitl [HF]; · iexact HF
    iexact HO
  iintro ⟨HX, HP, Hv, HO⟩
  iapply (load_slot c shapeCasts_S1024x1024_S1x1024x1024) $$ HX; iintro HX
  iapply (load_filled c) $$ HK; iintro %_ HK
  rw [hpay]
  iapply (store_filled (T := w2t m c) c n (kept2_word m c o h) (pc2_mem n o h ho)) $$ HK
  iintro HK
  iapply Hk
  isplitl [HP]; · iexact HP
  isplitl [HX]; · iapply (own_any c _ _) $$ HX
  isplitl [Hv]; · iexact Hv
  isplitl [HO]; · iexact HO
  iexact HK

/-- A slot with a piece of the first weights on its way to it, or of the second, and the share of the other weights it fetches with. -/
abbrev in1 (c : Dev nD) (q : PosShare TreeShare) (sem : DmaSem sig) (o0 : Fin 3 → ℕ) (h0 : ∀ a, o0 a + S1x1024x1024.size a ≤ S2x1024x1024.size a)
    (o : Fin 3 → ℕ) (h : ∀ a, o a + S1x1024x1024.size a ≤ S4x1024x2048.size a) : sProp 𝕄 :=
  iprop(fetching c sem (slot o0 h0) (src1 m c o h) (own c w1M q (w1 m c)) ∗ own c w2M q (w2 m c))
abbrev in2 (c : Dev nD) (q : PosShare TreeShare) (sem : DmaSem sig) (o0 : Fin 3 → ℕ) (h0 : ∀ a, o0 a + S1x1024x1024.size a ≤ S2x1024x1024.size a)
    (o : Fin 3 → ℕ) (h : ∀ a, o a + S1x1024x1024.size a ≤ S4x2048x1024.size a) : sProp 𝕄 :=
  iprop(fetching c sem (slot o0 h0) (src2 m c o h) (own c w2M q (w2 m c)) ∗ own c w1M q (w1 m c))

/-- A slot at rest: its semaphore at zero and both arrays' shares at hand. -/
abbrev idle (c : Dev nD) (q : PosShare TreeShare) (sem : DmaSem sig) (o0 : Fin 3 → ℕ) (h0 : ∀ a, o0 a + S1x1024x1024.size a ≤ S2x1024x1024.size a) : sProp 𝕄 :=
  iprop(own c w1M q (w1 m c) ∗ own c w2M q (w2 m c) ∗ anyOf c (slot o0 h0) ∗ semVal ((c : Thread nD τ), SemLoc.dma sem) 0)

/-- A piece of the first weights kept, and the slot set to fetch one of the second. -/
theorem turn1 {α : Type} {Q : α → sProp 𝕄} (c : Dev nD) (n : ℕ) {sem : DmaSem sig} {sp' : Space} {s' : Shape} {e' : EltTy} {srcw : Memref sig .tc sp' s' e'}
    {o0 : Fin 3 → ℕ} {h0 : ∀ a, o0 a + S1x1024x1024.size a ≤ S2x1024x1024.size a}
    {hsrc : srcw.view.WordExact} {hdst : (slot o0 h0).view.WordExact} {l : List (Dev nD × K)}
    {o : Fin 3 → ℕ} {h : ∀ a, o a + S1x1024x1024.size a ≤ S4x1024x2048.size a} {q : PosShare TreeShare}
    {o' : Fin 3 → ℕ} {h' : ∀ a, o' a + S1x1024x1024.size a ≤ S4x2048x1024.size a}
    {hl0 : stM.view.LoadsAt (Rect.unit (s := S2x1024x1024) o0 S1x1024x1024.size h0).toLoadRect} {hl1 : w1cM.view.LoadsAt (Rect.unit (s := S4x1024x2048) o S1x1024x1024.size h).toLoadRect}
    {pay : Vec F S1x1024x1024 .f32 → FVec F S1x1024x1024 .bf16}
    {hx : (w1cM.access (Rect.unit (s := S4x1024x2048) o S1x1024x1024.size h)).Stores Finset.univ} {hm} {hsrc' hdst' hsem'}
    {kk : PUnit → Prog (TpuEff nD τ sig (Elt F) Λ₀ .tc) α}
    (hk : kindOf (.dma sem) = none) (hl : ∀ e ∈ l, 0 < klev e.2) (hpay : ∀ v, pay v = k0_pay3 v)
    (ho : o 0 = n / 2 ∧ o 1 = 0 ∧ o 2 = n % 2 * 1024) :
    iprop(levAts L lv ∗ in1 m c q sem o0 h0 o h ∗ ow c l ∗ kept1 m c n)
      ⊢ iprop((iprop(in2 m c q sem o0 h0 o' h' ∗ ow c l ∗ kept1 m c (n + 1)) -∗ wpb c (kk ⟨⟩) Q)
          -∗ wpb c (.op (.waitDma2 sem srcw (slot o0 h0) hsrc hdst) fun _ =>
              .op (.load stM (Rect.unit (s := S2x1024x1024) o0 S1x1024x1024.size h0).toLoadRect hl0) fun v =>
              .op (.load w1cM (Rect.unit (s := S4x1024x2048) o S1x1024x1024.size h).toLoadRect hl1) fun _ =>
              .op (.store w1cM (Rect.unit (s := S4x1024x2048) o S1x1024x1024.size h) (pay v) Finset.univ hx hm) fun _ =>
              .op (.enqueueDma ((w2M.slice (Rect.unit (s := S4x2048x1024) o' S1x1024x1024.size h') (fun _ => rfl)).squeeze S1024x1024 squeezes_S1x1024x1024_S1024x1024)
                (.here (slot o0 h0)) (.dma sem) hsrc' hdst' hsem') kk) Q) := by
  iintro ⟨#HL, ⟨HF, HB⟩, HO, HK⟩ Hk
  iapply (piece1 m c n hk hl hpay ho) $$ [HF HO HK]
  · isplitr; · iexact HL
    isplitl [HF]; · iexact HF
    isplitl [HO]; · iexact HO
    iexact HK
  iintro ⟨HA, Hs, Hv, HO, HK⟩
  iapply (step_fetch c (by decide)) $$ [HB Hs Hv]
  · isplitl [HB]; · iexact HB
    isplitl [Hs]; · iexact Hs
    iexact Hv
  iintro HF
  iapply Hk
  isplitl [HF HA]
  · isplitl [HF]; · iexact HF
    iexact HA
  isplitl [HO]; · iexact HO
  iexact HK

/-- A piece of the second weights kept, and the slot set to fetch one of the first. -/
theorem turn2 {α : Type} {Q : α → sProp 𝕄} (c : Dev nD) (n : ℕ) {sem : DmaSem sig} {sp' : Space} {s' : Shape} {e' : EltTy} {srcw : Memref sig .tc sp' s' e'}
    {o0 : Fin 3 → ℕ} {h0 : ∀ a, o0 a + S1x1024x1024.size a ≤ S2x1024x1024.size a}
    {hsrc : srcw.view.WordExact} {hdst : (slot o0 h0).view.WordExact} {l : List (Dev nD × K)}
    {o : Fin 3 → ℕ} {h : ∀ a, o a + S1x1024x1024.size a ≤ S4x2048x1024.size a} {q : PosShare TreeShare}
    {o' : Fin 3 → ℕ} {h' : ∀ a, o' a + S1x1024x1024.size a ≤ S4x1024x2048.size a}
    {hl0 : stM.view.LoadsAt (Rect.unit (s := S2x1024x1024) o0 S1x1024x1024.size h0).toLoadRect} {hl1 : w2cM.view.LoadsAt (Rect.unit (s := S4x2048x1024) o S1x1024x1024.size h).toLoadRect}
    {pay : Vec F S1x1024x1024 .f32 → FVec F S1x1024x1024 .bf16}
    {hx : (w2cM.access (Rect.unit (s := S4x2048x1024) o S1x1024x1024.size h)).Stores Finset.univ} {hm} {hsrc' hdst' hsem'}
    {kk : PUnit → Prog (TpuEff nD τ sig (Elt F) Λ₀ .tc) α}
    (hk : kindOf (.dma sem) = none) (hl : ∀ e ∈ l, 0 < klev e.2) (hpay : ∀ v, pay v = k0_pay3 v)
    (ho : o 0 = n / 2 ∧ o 2 = 0 ∧ o 1 = n % 2 * 1024) :
    iprop(levAts L lv ∗ in2 m c q sem o0 h0 o h ∗ ow c l ∗ kept2 m c n)
      ⊢ iprop((iprop(in1 m c q sem o0 h0 o' h' ∗ ow c l ∗ kept2 m c (n + 1)) -∗ wpb c (kk ⟨⟩) Q)
          -∗ wpb c (.op (.waitDma2 sem srcw (slot o0 h0) hsrc hdst) fun _ =>
              .op (.load stM (Rect.unit (s := S2x1024x1024) o0 S1x1024x1024.size h0).toLoadRect hl0) fun v =>
              .op (.load w2cM (Rect.unit (s := S4x2048x1024) o S1x1024x1024.size h).toLoadRect hl1) fun _ =>
              .op (.store w2cM (Rect.unit (s := S4x2048x1024) o S1x1024x1024.size h) (pay v) Finset.univ hx hm) fun _ =>
              .op (.enqueueDma ((w1M.slice (Rect.unit (s := S4x1024x2048) o' S1x1024x1024.size h') (fun _ => rfl)).squeeze S1024x1024 squeezes_S1x1024x1024_S1024x1024)
                (.here (slot o0 h0)) (.dma sem) hsrc' hdst' hsem') kk) Q) := by
  iintro ⟨#HL, ⟨HF, HB⟩, HO, HK⟩ Hk
  iapply (piece2 m c n hk hl hpay ho) $$ [HF HO HK]
  · isplitr; · iexact HL
    isplitl [HF]; · iexact HF
    isplitl [HO]; · iexact HO
    iexact HK
  iintro ⟨HA, Hs, Hv, HO, HK⟩
  iapply (step_fetch c (by decide)) $$ [HB Hs Hv]
  · isplitl [HB]; · iexact HB
    isplitl [Hs]; · iexact Hs
    iexact Hv
  iintro HF
  iapply Hk
  isplitl [HF HA]
  · isplitl [HF]; · iexact HF
    iexact HA
  isplitl [HO]; · iexact HO
  iexact HK

/-! ## All sixteen -/

set_option maxHeartbeats 4000000 in
/-- Parts 5 to 15: from the first fetch in flight to both arrays kept. -/
theorem stage {α : Type} {Q : α → sProp 𝕄} (c : Dev nD) {l : List (Dev nD × K)} (hl : ∀ e ∈ l, 0 < klev e.2) {v2 v5 v8 : BitVec 32}
    {kk : PUnit → Prog (TpuEff nD τ sig (Elt F) Λ₀ .tc) α} :
    iprop(levAts L lv ∗ in1 m c fullShare.left (wdS ![0] inb_S2_S1_0) ![0, 0, 0] inb_S2x1024x1024_S1x1024x1024_0_0_0 ![0, 0, 0] inb_S4x1024x2048_S1x1024x1024_0_0_0
        ∗ idle m c fullShare.right (wdS ![1] inb_S2_S1_1) ![1, 0, 0] inb_S2x1024x1024_S1x1024x1024_1_0_0 ∗ ow c l ∗ anyOf c w1cM ∗ anyOf c w2cM)
      ⊢ iprop((iprop(idle m c fullShare.left (wdS ![0] inb_S2_S1_0) ![0, 0, 0] inb_S2x1024x1024_S1x1024x1024_0_0_0 ∗ idle m c fullShare.right (wdS ![1] inb_S2_S1_1) ![1, 0, 0] inb_S2x1024x1024_S1x1024x1024_1_0_0
            ∗ ow c l ∗ own c w1cM fullShare (w1t m c) ∗ own c w2cM fullShare (w2t m c)) -∗ wpb c (kk ⟨⟩) Q)
          -∗ wpb c ((p5 F) >>= fun _ => (p6 F) >>= fun _ => (p7 F) >>= fun _ => (p8 F) >>= fun v => (p9 F) v.1 v.2 >>= fun _ => (p10 F) >>= fun v =>
              (p11 F) v >>= fun _ => (p12 F) >>= fun v => (p13 F) v >>= fun _ => (p14 F) >>= fun _ => (p15 F) v2 v5 v8 >>= kk) Q) := by
  unfold p5 p6 p7 p8 p9 p10 p11 p12 p13 p14 p15
  simp only [k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part5_skel k0_part6_skel k0_part7_skel k0_part8_skel k0_part9_skel k0_part10_skel k0_part11_skel k0_part12_skel k0_part13_skel k0_part14_skel k0_part15_skel
  simp only [Prog.lift, Prog.bind_op, Prog.bind_ret, Prog.pure_eq_ret]
  iintro ⟨#HL, HS0, ⟨HA1, HB1, Hs1, Hv1⟩, HO, HK1, HK2⟩ Hk
  ihave HK1 := (filled_zero c w1cM pc1 (w1t m c)) $$ HK1
  ihave HK2 := (filled_zero c w2cM pc2 (w2t m c)) $$ HK2
  iapply (step_fetch c (by decide)) $$ [HA1 Hs1 Hv1]
  · isplitl [HA1]; · iexact HA1
    isplitl [Hs1]; · iexact Hs1
    iexact Hv1
  iintro HF1
  icombine HF1 HB1 as HS1
  iapply (turn1 m c 0 kindOf_wd0 hl (fun _ => rfl) (by decide)) $$ [HS0 HO HK1]
  · isplitr; · iexact HL
    isplitl [HS0]; · iexact HS0
    isplitl [HO]; · iexact HO
    iexact HK1
  iintro ⟨HS0, HO, HK1⟩
  iapply (turn1 m c 1 kindOf_wd1 hl (fun _ => rfl) (by decide)) $$ [HS1 HO HK1]
  · isplitr; · iexact HL
    isplitl [HS1]; · iexact HS1
    isplitl [HO]; · iexact HO
    iexact HK1
  iintro ⟨HS1, HO, HK1⟩
  iapply (turn2 m c 0 kindOf_wd0 hl (fun _ => rfl) (by decide)) $$ [HS0 HO HK2]
  · isplitr; · iexact HL
    isplitl [HS0]; · iexact HS0
    isplitl [HO]; · iexact HO
    iexact HK2
  iintro ⟨HS0, HO, HK2⟩
  iapply (turn2 m c 1 kindOf_wd1 hl (fun _ => rfl) (by decide)) $$ [HS1 HO HK2]
  · isplitr; · iexact HL
    isplitl [HS1]; · iexact HS1
    isplitl [HO]; · iexact HO
    iexact HK2
  iintro ⟨HS1, HO, HK2⟩
  iapply (turn1 m c 2 kindOf_wd0 hl (fun _ => rfl) (by decide)) $$ [HS0 HO HK1]
  · isplitr; · iexact HL
    isplitl [HS0]; · iexact HS0
    isplitl [HO]; · iexact HO
    iexact HK1
  iintro ⟨HS0, HO, HK1⟩
  iapply (turn1 m c 3 kindOf_wd1 hl (fun _ => rfl) (by decide)) $$ [HS1 HO HK1]
  · isplitr; · iexact HL
    isplitl [HS1]; · iexact HS1
    isplitl [HO]; · iexact HO
    iexact HK1
  iintro ⟨HS1, HO, HK1⟩
  iapply (turn2 m c 2 kindOf_wd0 hl (fun _ => rfl) (by decide)) $$ [HS0 HO HK2]
  · isplitr; · iexact HL
    isplitl [HS0]; · iexact HS0
    isplitl [HO]; · iexact HO
    iexact HK2
  iintro ⟨HS0, HO, HK2⟩
  iapply (turn2 m c 3 kindOf_wd1 hl (fun _ => rfl) (by decide)) $$ [HS1 HO HK2]
  · isplitr; · iexact HL
    isplitl [HS1]; · iexact HS1
    isplitl [HO]; · iexact HO
    iexact HK2
  iintro ⟨HS1, HO, HK2⟩
  iapply (turn1 m c 4 kindOf_wd0 hl (fun _ => rfl) (by decide)) $$ [HS0 HO HK1]
  · isplitr; · iexact HL
    isplitl [HS0]; · iexact HS0
    isplitl [HO]; · iexact HO
    iexact HK1
  iintro ⟨HS0, HO, HK1⟩
  iapply (turn1 m c 5 kindOf_wd1 hl (fun _ => rfl) (by decide)) $$ [HS1 HO HK1]
  · isplitr; · iexact HL
    isplitl [HS1]; · iexact HS1
    isplitl [HO]; · iexact HO
    iexact HK1
  iintro ⟨HS1, HO, HK1⟩
  iapply (turn2 m c 4 kindOf_wd0 hl (fun _ => rfl) (by decide)) $$ [HS0 HO HK2]
  · isplitr; · iexact HL
    isplitl [HS0]; · iexact HS0
    isplitl [HO]; · iexact HO
    iexact HK2
  iintro ⟨HS0, HO, HK2⟩
  iapply (turn2 m c 5 kindOf_wd1 hl (fun _ => rfl) (by decide)) $$ [HS1 HO HK2]
  · isplitr; · iexact HL
    isplitl [HS1]; · iexact HS1
    isplitl [HO]; · iexact HO
    iexact HK2
  iintro ⟨HS1, HO, HK2⟩
  iapply (turn1 m c 6 kindOf_wd0 hl (fun _ => rfl) (by decide)) $$ [HS0 HO HK1]
  · isplitr; · iexact HL
    isplitl [HS0]; · iexact HS0
    isplitl [HO]; · iexact HO
    iexact HK1
  iintro ⟨HS0, HO, HK1⟩
  iapply (turn1 m c 7 kindOf_wd1 hl (fun _ => rfl) (by decide)) $$ [HS1 HO HK1]
  · isplitr; · iexact HL
    isplitl [HS1]; · iexact HS1
    isplitl [HO]; · iexact HO
    iexact HK1
  iintro ⟨HS1, HO, HK1⟩
  icases HS0 with ⟨HF0, HA0⟩
  iapply (piece2 m c 6 kindOf_wd0 hl (fun _ => rfl) (by decide)) $$ [HF0 HO HK2]
  · isplitr; · iexact HL
    isplitl [HF0]; · iexact HF0
    isplitl [HO]; · iexact HO
    iexact HK2
  iintro ⟨HB0, Hs0, Hv0, HO, HK2⟩
  icases HS1 with ⟨HF1, HA1⟩
  iapply (piece2 m c 7 kindOf_wd1 hl (fun _ => rfl) (by decide)) $$ [HF1 HO HK2]
  · isplitr; · iexact HL
    isplitl [HF1]; · iexact HF1
    isplitl [HO]; · iexact HO
    iexact HK2
  iintro ⟨HB1, Hs1, Hv1, HO, HK2⟩
  iapply Hk
  isplitl [HA0 HB0 Hs0 Hv0]
  · isplitl [HA0]; · iexact HA0
    isplitl [HB0]; · iexact HB0
    isplitl [Hs0]; · iexact Hs0
    iexact Hv0
  isplitl [HA1 HB1 Hs1 Hv1]
  · isplitl [HA1]; · iexact HA1
    isplitl [HB1]; · iexact HB1
    isplitl [Hs1]; · iexact Hs1
    iexact Hv1
  isplitl [HO]; · iexact HO
  isplitl [HK1]; · iapply (filled_all c w1cM pc1 (w1t m c) 8 pc1_lt) $$ HK1
  iapply (filled_all c w2cM pc2 (w2t m c) 8 pc2_lt) $$ HK2

end Cert.KernelIdealProof
-- ==== Proof.KernelIdeal.PartsA.lean ====
/-
# The parts of the body before the staging

One theorem per printed part: what it needs, what it leaves, over any continuation.
-/
module

public import Mathlib.Tactic.IntervalCases
public import proofs.«01_k».proof.Proof.KernelIdeal.Weights
public import Idealize.ShloMosaic.Lib.VecWindow

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

/-! ## Waits as the parts use them -/

omit [FloatOps F] [Named F] in
theorem onlyIf_pos {p : Prop} [Decidable p] (h : p) (P : sProp 𝕄) : onlyIf (F := F) p P = P := if_pos h
omit [FloatOps F] [Named F] in
theorem onlyIf_neg {p : Prop} [Decidable p] (h : ¬ p) (P : sProp 𝕄) : onlyIf (F := F) p P = iprop(emp) := if_neg h

/-- The device's cell of a kind, ready to be waited for: the credit and the position. -/
def ready (c : Dev nD) (k : K) : sProp 𝕄 := iprop(cred (tallyAt (kc (c, k)) () (amt k)) ∗ at0 c k)

/-- The device's cell of a kind after its last round. -/
def done (c : Dev nD) (k : K) : sProp 𝕄 :=
  iprop(∃ R, ⌜∀ r, R ≤ r → (rd (F := F) m).duties (kc (c, k)) r = ∅⌝ ∗ atPos ER (kc (c, k)) R ∅ 0)

theorem done_of_fin (c : Dev nD) (k : K) : fin (F := F) c k ⊢ done m c k := by
  unfold fin done
  iintro H
  iexists 1
  isplitr; · ipureintro; exact fun r hr => rd_later m _ r hr
  iexact H

theorem done_of_at0 (c : Dev nD) (k : K) (h : dut c k = ∅) : at0 (F := F) c k ⊢ done m c k := by
  unfold at0 done
  iintro H
  iexists 0
  isplitr
  · ipureintro
    intro r _
    rcases Nat.eq_zero_or_pos r with rfl | hr
    · rw [rd_duties, h]
    · exact rd_later m _ r hr
  iexact H

/-- A cell past its last round gives its semaphore back, at zero. -/
theorem done_close (c : Dev nD) (k : K) :
    iprop(records m κ ∗ done m c k) ⊢ |={Set.univ}=> (semVal (kc (c, k)) 0 : sProp 𝕄) := by
  unfold done
  iintro ⟨#HR, ⟨%R, %hR, H⟩⟩
  ihave #HI := (records_inv m κ (c, k)) $$ HR
  iapply (Rounds.cell_close ER (rd m) (Set.mem_univ (κ (c, k))) (fun h => h) (R := R) hR)
  isplitr; · iexact HI
  iexact H

/-- A wait for a transfer's cell. -/
theorem wait_dma {α : Type} {Q : α → sProp 𝕄} (c : Dev nD) (k : K) {l : List (Dev nD × K)} {sem : DmaSem sig} {sp sp' : Space} {s s' : Shape} {e e' : EltTy}
    {srcw : Memref sig .tc sp' s' e'} {dstw : Memref sig .tc sp s e} {hsrc : srcw.view.WordExact} {hdst : dstw.view.WordExact}
    (hs : semOf k = .dma sem) (hd : dut c k = {0}) (hN : dstw.view.dmaCredit = amt k) (hl : ∀ e ∈ l, klev k < klev e.2)
    {kk : PUnit → Prog (TpuEff nD τ sig (Elt F) Λ₀ .tc) α} :
    iprop(records m κ ∗ levAts L lv ∗ ready c k ∗ ow c l)
      ⊢ iprop((iprop(pay m c k 0 ∗ done m c k ∗ ow c l) -∗ wpb c (kk ⟨⟩) Q) -∗ wpb c (.op (.waitDma2 sem srcw dstw hsrc hdst) kk) Q) := by
  unfold ready
  iintro ⟨#HR, #HL, ⟨Hc, Hat⟩, HO⟩ Hk
  iapply (step_waitDma m κ c k hs hd hN hl) $$ [Hc HO Hat]
  · isplitr; · iexact HR
    isplitr; · iexact HL
    isplitl [Hc]; · iexact Hc
    isplitl [HO]; · iexact HO
    iexact Hat
  iintro ⟨HO, Hf, Hp⟩
  iapply Hk
  isplitl [Hp]; · iexact Hp
  isplitl [Hf]; · iapply (done_of_fin m c k); iexact Hf
  iexact HO

/-! ## The entry barrier -/

omit [FloatOps F] [Named F] in
/-- A buffer handed to whichever device is to write it, by the device's place. -/
theorem handout (c : Dev nD) (X : sProp 𝕄) :
    X ⊢ iprop(onlyIf (qq c = 0) X ∗ onlyIf (qq c = 1) X ∗ onlyIf (qq c = 2) X ∗ onlyIf (qq c = 3) X) := by
  have h := qq_lt c
  generalize qq c = n at h
  interval_cases n <;> simp only [onlyIf] <;> norm_num <;> iintro H <;> iframe H
  · isplitl []; · iempintro
    isplitl []; · iempintro
    iempintro
  · isplitl []; · iempintro
    iempintro

omit [FloatOps F] [Named F] in
/-- What the three neighbours along `z` hand over together: where the device's tokens go, if anywhere; -/
theorem handin_xb (c : Dev nD) :
    iprop(onlyIf (qq c = 1) (anyOf (F := F) (zp 3 c) xbM) ∗ onlyIf (qq c = 2) (anyOf (zp 2 c) xbM) ∗ onlyIf (qq c = 3) (anyOf (zp 1 c) xbM))
      ⊢ onlyIf (qq c ≠ 0) (anyOf (bwd c) xbM) := by
  have h := qq_lt c
  unfold bwd
  generalize qq c = n at h
  interval_cases n <;> simp only [onlyIf] <;> norm_num <;> iintro ⟨H1, H2, H3⟩ <;> first | iexact H1 | iexact H2 | iexact H3 | iempintro
omit [FloatOps F] [Named F] in
/-- and where its partial sum goes. -/
theorem handin_pr (c : Dev nD) :
    iprop(onlyIf (qq c = 3) (anyOf (F := F) (zp 3 c) prM) ∗ onlyIf (qq c = 2) (anyOf (zp 2 c) prM) ∗ onlyIf (qq c = 1) (anyOf (zp 1 c) prM))
      ⊢ onlyIf (qq c ≠ 0) (anyOf (fwd c) prM) := by
  have h := qq_lt c
  unfold fwd
  generalize qq c = n at h
  interval_cases n <;> simp only [onlyIf] <;> norm_num <;> iintro ⟨H1, H2, H3⟩ <;> first | iexact H1 | iexact H2 | iexact H3 | iempintro

/-- The token of a duty. -/
abbrev dt (e : Dev nD × K) (d : Fin 5) : sProp 𝕄 := dutyTok ER (kc e) 0 d

/-- What the device hands its three neighbours along `z`: its slot for their columns, and the buffers that only the
    neighbour at the right distance is to write. -/
theorem give0 (c : Dev nD) : iprop(anyOf (F := F) c rg1 ∗ onlyIf (qq c = 1) (anyOf c xbM) ∗ onlyIf (qq c = 3) (anyOf c prM)) ⊢ pay m (zp 1 c) .bar 0 := by
  show _ ⊢ barPay (zp 1 c) 0
  unfold barPay
  rw [zp3_zp1, qq_zp1]
theorem give1 (c : Dev nD) : iprop(anyOf (F := F) c rg2 ∗ onlyIf (qq c = 2) (anyOf c xbM) ∗ onlyIf (qq c = 2) (anyOf c prM)) ⊢ pay m (zp 2 c) .bar 1 := by
  show _ ⊢ barPay (zp 2 c) 1
  unfold barPay
  rw [zp2_zp2, qq_zp2]
theorem give2 (c : Dev nD) : iprop(anyOf (F := F) c rg3 ∗ onlyIf (qq c = 3) (anyOf c xbM) ∗ onlyIf (qq c = 1) (anyOf c prM)) ⊢ pay m (zp 3 c) .bar 2 := by
  show _ ⊢ barPay (zp 3 c) 2
  unfold barPay
  rw [zp1_zp3, qq_zp3]
theorem give3 (c : Dev nD) : anyOf (F := F) c pxM ⊢ pay m (xp c) .bar 3 := by
  show _ ⊢ barPay (xp c) 3
  unfold barPay
  rw [xp_xp]
theorem give4 (c : Dev nD) : anyOf (F := F) c pyM ⊢ pay m (yp c) .bar 4 := by
  show _ ⊢ barPay (yp c) 4
  unfold barPay
  rw [yp_yp]

/-- What the five neighbours have handed over once the wait is done. -/
theorem take_bar (c : Dev nD) :
    bigSep (dut c .bar) (pay (F := F) m c .bar)
      ⊢ iprop(anyOf (zp 3 c) rg1 ∗ anyOf (zp 2 c) rg2 ∗ anyOf (zp 1 c) rg3 ∗ anyOf (xp c) pxM ∗ anyOf (yp c) pyM
          ∗ onlyIf (qq c ≠ 0) (anyOf (bwd c) xbM) ∗ onlyIf (qq c ≠ 0) (anyOf (fwd c) prM)) := by
  show bigSep Finset.univ (barPay c) ⊢ _
  rw [bigSep_univ_eq_bigSepL [0, 1, 2, 3, 4] (by decide) (by decide)]
  simp only [bigSepL_cons_cons, bigSepL_singleton]
  show iprop((anyOf (zp 3 c) rg1 ∗ onlyIf (qq c = 1) (anyOf (zp 3 c) xbM) ∗ onlyIf (qq c = 3) (anyOf (zp 3 c) prM))
    ∗ (anyOf (zp 2 c) rg2 ∗ onlyIf (qq c = 2) (anyOf (zp 2 c) xbM) ∗ onlyIf (qq c = 2) (anyOf (zp 2 c) prM))
    ∗ (anyOf (zp 1 c) rg3 ∗ onlyIf (qq c = 3) (anyOf (zp 1 c) xbM) ∗ onlyIf (qq c = 1) (anyOf (zp 1 c) prM))
    ∗ anyOf (xp c) pxM ∗ anyOf (yp c) pyM) ⊢ _
  iintro ⟨⟨H1, A1, B1⟩, ⟨H2, A2, B2⟩, ⟨H3, A3, B3⟩, H4, H5⟩
  isplitl [H1]; · iexact H1
  isplitl [H2]; · iexact H2
  isplitl [H3]; · iexact H3
  isplitl [H4]; · iexact H4
  isplitl [H5]; · iexact H5
  isplitl [A1 A2 A3]
  · iapply (handin_xb (F := F) c)
    isplitl [A1]; · iexact A1
    isplitl [A2]; · iexact A2
    iexact A3
  · iapply (handin_pr (F := F) c)
    isplitl [B1]; · iexact B1
    isplitl [B2]; · iexact B2
    iexact B3

/-- Part 1: the device learns its place and signals its first neighbour. -/
theorem part1 {α : Type} {Q : α → sProp 𝕄} (c : Dev nD) {l : List (Dev nD × K)} {kk} :
    iprop(records m κ ∗ ow c ((zp 1 c, .bar) :: l) ∗ dt (zp 1 c, .bar) 0
        ∗ anyOf c rg1 ∗ onlyIf (qq c = 1) (anyOf c xbM) ∗ onlyIf (qq c = 3) (anyOf c prM))
      ⊢ iprop((ow c l -∗ wpb c (kk ⟨c, wx c, wy c, wz c, wq c, Scalar.remsi (Scalar.addi (wz c) (wq c)) 4#32,
              Scalar.remsi (Scalar.addi (wz c) (Scalar.subi 4#32 (wq c))) 4#32, Scalar.subi 1#32 (wx c), Scalar.subi 1#32 (wy c),
              SemArray.scalar (sig.barrier 0 rfl), Scalar.remsi (Scalar.addi (wz c) 2#32) 4#32, Scalar.remsi (Scalar.addi (wz c) 3#32) 4#32,
              Scalar.muli (wx c) 8#32, 0#32⟩) Q)
          -∗ wpb (F := F) c (p1 F >>= kk) Q) := by
  unfold p1
  simp only [k0_part1_eq_skeleton]
  unfold k0_part1_skel
  simp only [semSignalWord, Prog.lift, Prog.bind_op, Prog.bind_ret, Prog.pure_eq_ret, wp_deviceId]
  iintro ⟨#HR, HO, Ht, Hg⟩ Hk
  iapply (step_signal m κ c (zp 1 c, .bar) 0 (dev1_eq c) rfl (Finset.mem_univ _) rfl (by decide)) $$ [HO Ht Hg]
  · isplitr; · iexact HR
    isplitl [HO]; · iexact HO
    isplitl [Ht]; · iexact Ht
    iapply (give0 m c) $$ Hg
  iexact Hk

theorem pay1_cast (v : Vec F S1024x4 .f32) (h : S1x1024x4.ShapeCasts S1024x4) : shapeCast S1024x4 (k0_pay1 v) h = v := by
  unfold k0_pay1
  funext j
  show v (Shape.reshapeEquiv _ (Shape.reshapeEquiv _ (Shape.reshapeEquiv h j))) = v j
  simp only [Shape.reshapeEquiv_reshapeEquiv, Shape.reshapeEquiv_self]

theorem hz2 : (![0, 0] : Fin 2 → ℕ) = fun _ => 0 := funext fun a => by fin_cases a <;> rfl

/-- Part 2: the other four signals, the wait for the five of the neighbours', and the device's columns put into slot 0. -/
theorem part2 {α : Type} {Q : α → sProp 𝕄} (c : Dev nD) {v2 v5 v8 v16 v17 v22 v24 v31 z : BitVec 32} {kk} :
    iprop(records m κ ∗ levAts L lv ∗ ow c ((zp 2 c, .bar) :: (zp 3 c, .bar) :: (xp c, .bar) :: (yp c, .bar) :: rgL c)
        ∗ (dt (zp 2 c, .bar) 1 ∗ dt (zp 3 c, .bar) 2 ∗ dt (xp c, .bar) 3 ∗ dt (yp c, .bar) 4)
        ∗ (anyOf c rg2 ∗ onlyIf (qq c = 2) (anyOf c xbM) ∗ onlyIf (qq c = 2) (anyOf c prM))
        ∗ (anyOf c rg3 ∗ onlyIf (qq c = 3) (anyOf c xbM) ∗ onlyIf (qq c = 1) (anyOf c prM))
        ∗ anyOf c pxM ∗ anyOf c pyM
        ∗ cred (tallyAt (kc (c, K.bar)) () 5) ∗ at0 c .bar
        ∗ own c rM fullShare (rs m c) ∗ anyOf c rg0)
      ⊢ iprop((iprop(ow c (rgL c) ∗ done m c .bar
            ∗ (anyOf (zp 3 c) rg1 ∗ anyOf (zp 2 c) rg2 ∗ anyOf (zp 1 c) rg3 ∗ anyOf (xp c) pxM ∗ anyOf (yp c) pyM
              ∗ onlyIf (qq c ≠ 0) (anyOf (bwd c) xbM) ∗ onlyIf (qq c ≠ 0) (anyOf (fwd c) prM))
            ∗ own c rM fullShare (rs m c) ∗ own c rg0 fullShare (rs m c)) -∗ wpb c (kk (Scalar.addi v8 1#32)) Q)
          -∗ wpb (F := F) c (p2 F c v2 v5 v8 v16 v17 (SemArray.scalar (sig.barrier 0 rfl)) v22 v24 v31 z >>= kk) Q) := by
  unfold p2
  simp only [k0_part2_eq_skeleton]
  unfold k0_part2_skel
  simp only [semSignalWord, semWaitWord, Prog.lift, Prog.bind_op, Prog.bind_ret, Prog.pure_eq_ret]
  iintro ⟨#HR, #HL, HO, ⟨Ht1, Ht2, Ht3, Ht4⟩, Hg1, Hg2, Hg3, Hg4, Hc, Hat, Hr, Hs⟩ Hk
  iapply (step_signal m κ c (zp 2 c, .bar) 1 (dev2_eq c) rfl (Finset.mem_univ _) rfl (by decide)) $$ [HO Ht1 Hg1]
  · isplitr; · iexact HR
    isplitl [HO]; · iexact HO
    isplitl [Ht1]; · iexact Ht1
    iapply (give1 m c) $$ Hg1
  iintro HO
  iapply (step_signal m κ c (zp 3 c, .bar) 2 (dev3_eq c) rfl (Finset.mem_univ _) rfl (by decide)) $$ [HO Ht2 Hg2]
  · isplitr; · iexact HR
    isplitl [HO]; · iexact HO
    isplitl [Ht2]; · iexact Ht2
    iapply (give2 m c) $$ Hg2
  iintro HO
  iapply (step_signal m κ c (xp c, .bar) 3 (dev4_eq c) rfl (Finset.mem_univ _) rfl (by decide)) $$ [HO Ht3 Hg3]
  · isplitr; · iexact HR
    isplitl [HO]; · iexact HO
    isplitl [Ht3]; · iexact Ht3
    iapply (give3 m c) $$ Hg3
  iintro HO
  iapply (step_signal m κ c (yp c, .bar) 4 (dev5_eq c) rfl (Finset.mem_univ _) rfl (by decide)) $$ [HO Ht4 Hg4]
  · isplitr; · iexact HR
    isplitl [HO]; · iexact HO
    isplitl [Ht4]; · iexact Ht4
    iapply (give4 m c) $$ Hg4
  iintro HO
  iapply (step_wait m κ c .bar (N := 5) rfl (wpE_semWait_eq 𝒱₀ (c : Thread nD τ) none Set.univ) rfl (lev_rg c)) $$ [HO Hc Hat]
  · isplitr; · iexact HR
    isplitr; · iexact HL
    isplitl [Hc]; · iexact Hc
    isplitl [HO]; · iexact HO
    iexact Hat
  iintro ⟨HO, Hf, Hp⟩
  ihave Hp := (take_bar m c) $$ Hp
  iapply (load_own c hz2) $$ Hr
  iintro Hr
  iapply (load_any_slot c) $$ Hs
  iintro %v Hs
  iapply (store_slot c shapeCasts_S1x1024x4_S1024x4) $$ Hs
  iintro Hs
  rw [pay1_cast]
  iapply Hk
  isplitl [HO]; · iexact HO
  isplitl [Hf]; · iapply (done_of_fin m c .bar); iexact Hf
  isplitl [Hp]; · iexact Hp
  isplitl [Hr]; · iexact Hr
  iexact Hs

/-! ## The gather sent off, and the tokens -/

theorem share_rg0 (c : Dev nD) (X : S1024x4.Idx → Elt F .f32) :
    own (F := F) c rg0 fullShare X ⊣⊢ iprop((own c rg0 s1 X ∗ own c rg0 s2 X) ∗ own c rg0 s3 X ∗ own c rg0 s4 X) :=
  (owns_halves (c : Thread nD τ) rg0 fullShare X).trans (BI.Laws.sep_congr (owns_halves (c : Thread nD τ) rg0 fullShare.left X) (owns_halves (c : Thread nD τ) rg0 fullShare.right X))

/-- Part 3: the device's columns sent to two of its neighbours along `z`. -/
theorem part3 {α : Type} {Q : α → sProp 𝕄} (c : Dev nD) {l : List (Dev nD × K)} {v2 v5 v8 v60 : BitVec 32} {kk} :
    iprop(records m κ ∗ ow c ((zp 1 c, .rgR3) :: (zp 2 c, .rgR2) :: l) ∗ (dt (c, .rgS1) 0 ∗ dt (zp 1 c, .rgR3) 0 ∗ dt (c, .rgS2) 0 ∗ dt (zp 2 c, .rgR2) 0)
        ∗ own c rg0 s1 (rs m c) ∗ own c rg0 s2 (rs m c) ∗ anyOf (zp 1 c) rg3 ∗ anyOf (zp 2 c) rg2 ∗ at0 c .rgS1 ∗ at0 c .rgS2)
      ⊢ iprop((iprop(ow c l ∗ ready c .rgS1 ∗ ready c .rgS2) -∗ wpb c (kk ⟨⟩) Q) -∗ wpb (F := F) c (p3 F c v2 v5 v8 v60 >>= kk) Q) := by
  unfold p3
  simp only [k0_part3_eq_skeleton]
  unfold k0_part3_skel
  simp only [Prog.lift, Prog.bind_op, Prog.bind_ret, Prog.pure_eq_ret]
  unfold ready
  iintro ⟨#HR, HO, ⟨Ht1, Ht2, Ht3, Ht4⟩, Hs1, Hs2, Hd1, Hd2, Ha1, Ha2⟩ Hk
  iapply (step_send m κ c (zp 1 c) .rgS1 .rgR3 (dev6_eq c) rg3 HEq.rfl rfl rfl (Finset.mem_singleton_self _) (Finset.mem_singleton_self _) rfl rfl rfl
    (by show own _ _ _ (rs m (zp 3 (zp 1 c))) = _; rw [zp3_zp1])) $$ [HO Ht1 Ht2 Hs1 Hd1]
  · isplitr; · iexact HR
    isplitl [Hs1]; · iexact Hs1
    isplitl [Hd1]; · iexact Hd1
    isplitl [HO]; · iexact HO
    isplitl [Ht1]; · iexact Ht1
    iexact Ht2
  iintro ⟨Hc1, HO⟩
  iapply (step_send m κ c (zp 2 c) .rgS2 .rgR2 (dev7_eq c) rg2 HEq.rfl rfl rfl (Finset.mem_singleton_self _) (Finset.mem_singleton_self _) rfl rfl rfl
    (by show own _ _ _ (rs m (zp 2 (zp 2 c))) = _; rw [zp2_zp2])) $$ [HO Ht3 Ht4 Hs2 Hd2]
  · isplitr; · iexact HR
    isplitl [Hs2]; · iexact Hs2
    isplitl [Hd2]; · iexact Hd2
    isplitl [HO]; · iexact HO
    isplitl [Ht3]; · iexact Ht3
    iexact Ht4
  iintro ⟨Hc2, HO⟩
  iapply Hk
  isplitl [HO]; · iexact HO
  isplitl [Hc1 Ha1]
  · isplitl [Hc1]; · iexact Hc1
    iexact Ha1
  isplitl [Hc2]; · iexact Hc2
  iexact Ha2

/-- The two conditions the body branches on, as it computes them. -/
theorem eqz_iff (c : Dev nD) : Scalar.cmpi .ne (Scalar.extui (Scalar.cmpi .eq (wq c) 0#32)) 0#32 = 1#1 ↔ qq c = 0 := by revert c; decide +kernel
theorem nez_iff (c : Dev nD) : Scalar.cmpi .ne (Scalar.extui (Scalar.cmpi .ne (wq c) 0#32)) 0#32 = 1#1 ↔ qq c ≠ 0 := by revert c; decide +kernel

theorem pay2_eq (v : Vec F S256x1024 .f32) : k0_pay2 v = v := by
  unfold k0_pay2
  funext j
  show v (Shape.reshapeEquiv _ (Shape.reshapeEquiv _ j)) = v j
  simp only [Shape.reshapeEquiv_reshapeEquiv, Shape.reshapeEquiv_self]

/-- Part 4: the columns sent to the third neighbour; the tokens sent on, or kept by a device at the start of the ring;
    the first fetch started. -/
theorem part4 {α : Type} {Q : α → sProp 𝕄} (c : Dev nD) {v2 v5 v8 v15 : BitVec 32} {kk} :
    iprop(records m κ ∗ ow c ((zp 3 c, .rgR1) :: xpL c) ∗ (dt (c, .rgS3) 0 ∗ dt (zp 3 c, .rgR1) 0 ∗ dt (c, .xpS) 0 ∗ dt (bwd c, .xpR) 0)
        ∗ own c rg0 s3 (rs m c) ∗ anyOf (zp 3 c) rg1 ∗ at0 c .rgS3
        ∗ own c xM fullShare (xs m c) ∗ onlyIf (qq c ≠ 0) (anyOf (bwd c) xbM) ∗ onlyIf (qq c = 0) (anyOf c xbM) ∗ at0 c .xpS
        ∗ idle m c fullShare.left (wdS ![0] inb_S2_S1_0) ![0, 0, 0] inb_S2x1024x1024_S1x1024x1024_0_0_0)
      ⊢ iprop((iprop(ow c (ppL c) ∗ ready c .rgS3 ∗ onlyIf (qq c ≠ 0) (ready c .xpS)
            ∗ onlyIf (qq c = 0) iprop(own c xM fullShare (xs m c) ∗ own c xbM fullShare (xs m (fwd c)) ∗ done m c .xpS)
            ∗ in1 m c fullShare.left (wdS ![0] inb_S2_S1_0) ![0, 0, 0] inb_S2x1024x1024_S1x1024x1024_0_0_0 ![0, 0, 0] inb_S4x1024x2048_S1x1024x1024_0_0_0)
          -∗ wpb c (kk ⟨⟩) Q)
          -∗ wpb (F := F) c (p4 F c v2 v5 v8 (wq c) v15 >>= kk) Q) := by
  unfold p4
  simp only [k0_part4_eq_skeleton]
  unfold k0_part4_skel
  simp only [Prog.lift, Prog.bind_op, Prog.bind_ret, Prog.pure_eq_ret]
  iintro ⟨#HR, HO, ⟨Ht1, Ht2, Ht3, Ht4⟩, Hs3, Hd3, Ha3, Hx, Hxb, Hxb0, HaX, ⟨HA, HB, Hst, Hv⟩⟩ Hk
  iapply (step_send m κ c (zp 3 c) .rgS3 .rgR1 (dev8_eq c) rg1 HEq.rfl rfl rfl (Finset.mem_singleton_self _) (Finset.mem_singleton_self _) rfl rfl rfl
    (by show own _ _ _ (rs m (zp 1 (zp 3 c))) = _; rw [zp1_zp3])) $$ [HO Ht1 Ht2 Hs3 Hd3]
  · isplitr; · iexact HR
    isplitl [Hs3]; · iexact Hs3
    isplitl [Hd3]; · iexact Hd3
    isplitl [HO]; · iexact HO
    isplitl [Ht1]; · iexact Ht1
    iexact Ht2
  iintro ⟨Hc3, HO⟩
  by_cases hq : qq c = 0
  · rw [dif_neg (fun h => (cond1_iff c).mp h hq), dif_pos ((eqz_iff c).mpr hq)]
    simp only [Prog.bind_op, Prog.bind_ret, onlyIf_pos hq, onlyIf_neg (not_not.mpr hq)]
    have hx : xpL c = ppL c := by unfold xpL; rw [if_pos hq]
    rw [hx]
    iapply (load_own c hz2) $$ Hx
    iintro Hx
    iapply (load_any c) $$ Hxb0
    iintro %v Hxb0
    iapply (store_any c hz2) $$ Hxb0
    iintro Hxb0
    iapply (step_fetch c (by decide)) $$ [HA Hst Hv]
    · isplitl [HA]; · iexact HA
      isplitl [Hst]; · iexact Hst
      iexact Hv
    iintro HF
    iapply Hk
    isplitl [HO]; · iexact HO
    isplitl [Hc3 Ha3]
    · unfold ready; isplitl [Hc3]; · iexact Hc3
      iexact Ha3
    isplitr; · iempintro
    isplitl [Hx Hxb0 HaX]
    · isplitl [Hx]; · iexact Hx
      isplitl [Hxb0]; · rw [fwd_of_zero hq, pay2_eq]; iexact Hxb0
      iapply (done_of_at0 m c .xpS (if_pos hq)) $$ HaX
    isplitl [HF]; · iexact HF
    iexact HB
  · rw [dif_pos ((cond1_iff c).mpr hq), dif_neg (fun h => hq ((eqz_iff c).mp h))]
    simp only [Prog.bind_op, Prog.bind_ret, onlyIf_neg hq, onlyIf_pos (show qq c ≠ 0 from hq)]
    have hx : xpL c = (bwd c, .xpR) :: ppL c := by unfold xpL; rw [if_neg hq]
    rw [hx]
    iapply (step_send m κ c (bwd c) .xpS .xpR (dev9_eq c ((cond1_iff c).mpr hq)) xbM HEq.rfl rfl rfl
      (by show 0 ∈ (if qq c = 0 then (∅ : Finset (Fin 5)) else {0}); rw [if_neg hq]; exact Finset.mem_singleton_self _)
      (by show 0 ∈ (if qq (bwd c) = 0 then (∅ : Finset (Fin 5)) else {0}); rw [qq_bwd, if_neg hq]; exact Finset.mem_singleton_self _) rfl rfl rfl
      (by show own _ _ _ (xs m (fwd (bwd c))) = _; rw [fwd_bwd])) $$ [HO Ht3 Ht4 Hx Hxb]
    · isplitr; · iexact HR
      isplitl [Hx]; · iexact Hx
      isplitl [Hxb]; · iexact Hxb
      isplitl [HO]; · iexact HO
      isplitl [Ht3]; · iexact Ht3
      iexact Ht4
    iintro ⟨HcX, HO⟩
    iapply (step_fetch c (by decide)) $$ [HA Hst Hv]
    · isplitl [HA]; · iexact HA
      isplitl [Hst]; · iexact Hst
      iexact Hv
    iintro HF
    iapply Hk
    isplitl [HO]; · iexact HO
    isplitl [Hc3 Ha3]
    · unfold ready; isplitl [Hc3]; · iexact Hc3
      iexact Ha3
    isplitl [HcX HaX]
    · unfold ready; isplitl [HcX]; · iexact HcX
      iexact HaX
    isplitr; · iempintro
    isplitl [HF]; · iexact HF
    iexact HB

end Cert.KernelIdealProof
-- ==== Proof.KernelIdeal.PartsB.lean ====
/-
# The parts of the body from the waits for the neighbours to the partial sum

One theorem per printed part: what it needs, what it leaves, over any continuation.
-/
module

public import proofs.«01_k».proof.Proof.KernelIdeal.PartsA
public import Idealize.ShloMosaic.Lib.VecWindow

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

/-- A load of a rectangle of a memref. -/
theorem load_rect {α : Type} {Q : α → sProp 𝕄} (c : Dev nD) {s : Shape} {e : EltTy} {M : Memref sig .tc .vmem s e} {r : LoadRect s} {hl : M.view.LoadsAt r}
    {q : PosShare TreeShare} {X : s.Idx → Elt F e} (w : r.shape.Idx → Elt F e) (hw : ∀ f, M.view.read (Elt F) f = X → M.view.readAt (Elt F) r f = w)
    {kk : (r.shape.Idx → Elt F e) → Prog (TpuEff nD τ sig (Elt F) Λ₀ .tc) α} :
    own c M q X ⊢ iprop((own c M q X -∗ wpb c (kk w) Q) -∗ wpb c (.op (.load M r hl) kk) Q) := by
  unfold own owns
  iintro ⟨%f, %hf, H⟩ Hk
  iapply (wp_load 𝒱₀ (c : Thread nD τ) none Set.univ (m := M) (View.setOn_subset_set _ _)) $$ H
  iintro H
  rw [hw f hf]
  iapply Hk
  iexists f; isplitr; · ipureintro; exact hf
  iexact H

theorem read_e1 (c : Dev nD) (o : Fin 3 → ℕ) (h : ∀ a, o a + S1x1024x2048.size a ≤ S4x1024x2048.size a) (f) (hf : w1cM.view.read (Elt F) f = w1t m c) :
    w1cM.view.readAt (Elt F) (Rect.unit (s := S4x1024x2048) o S1x1024x2048.size h).toLoadRect f = e1 m c o h := by
  have hf' : f = w1t m c := hf
  rw [hf']; rfl
theorem read_e2 (c : Dev nD) (o : Fin 3 → ℕ) (h : ∀ a, o a + S1x2048x1024.size a ≤ S4x2048x1024.size a) (f) (hf : w2cM.view.read (Elt F) f = w2t m c) :
    w2cM.view.readAt (Elt F) (Rect.unit (s := S4x2048x1024) o S1x2048x1024.size h).toLoadRect f = e2 m c o h := by
  have hf' : f = w2t m c := hf
  rw [hf']; rfl

/-- The device's cell of a kind at the start: the credit of all its duties, and the position. -/
def poised (c : Dev nD) (k : K) : sProp 𝕄 := iprop(cred (tallyAt (kc (c, k)) () ((dut c k).card * amt k)) ∗ at0 c k)

omit [FloatOps F] [Named F] in
theorem ready_of_poised (c : Dev nD) (k : K) (h : dut c k = {0}) : poised (F := F) c k ⊢ ready c k := by
  unfold poised ready
  rw [h, Finset.card_singleton, one_mul]

theorem done_of_poised (c : Dev nD) (k : K) (h : dut c k = ∅) : poised (F := F) c k ⊢ done m c k := by
  unfold poised
  iintro ⟨-, H⟩
  iapply (done_of_at0 m c k h) $$ H

/-- Parts 16 and 17: the columns of the three neighbours, and the tokens, waited for and read. -/
theorem part16 {α : Type} {Q : α → sProp 𝕄} (c : Dev nD) {v2 v5 v8 : BitVec 32} {kk} :
    iprop(records m κ ∗ levAts L lv ∗ ow c (ppL c) ∗ poised c .rgR1 ∗ poised c .rgR2)
      ⊢ iprop((iprop(ow c (ppL c) ∗ (own c rg1 fullShare (rs m (zp 1 c)) ∗ done m c .rgR1) ∗ own c rg2 fullShare (rs m (zp 2 c)) ∗ done m c .rgR2)
          -∗ wpb c (kk ⟨⟩) Q) -∗ wpb (F := F) c (p16 F v2 v5 v8 >>= kk) Q) := by
  unfold p16
  simp only [k0_part16_eq_skeleton]
  unfold k0_part16_skel
  simp only [Prog.lift, Prog.bind_op, Prog.bind_ret, Prog.pure_eq_ret]
  iintro ⟨#HR, #HL, HO, H1, H2⟩ Hk
  iapply (wait_dma m κ c .rgR1 (l := ppL c) (hs := by rfl) (hd := by first | rfl | exact if_neg hq) (hN := by rfl) (hl := lev_pp c)) $$ [HO H1]
  · isplitr; · iexact HR
    isplitr; · iexact HL
    isplitl [H1]; · iapply (ready_of_poised c .rgR1 rfl) $$ H1
    iexact HO
  iintro ⟨Hp1, Hd1, HO⟩
  iapply (wait_dma m κ c .rgR2 (l := ppL c) (hs := by rfl) (hd := by first | rfl | exact if_neg hq) (hN := by rfl) (hl := lev_pp c)) $$ [HO H2]
  · isplitr; · iexact HR
    isplitr; · iexact HL
    isplitl [H2]; · iapply (ready_of_poised c .rgR2 rfl) $$ H2
    iexact HO
  iintro ⟨Hp2, Hd2, HO⟩
  iapply Hk
  isplitl [HO]; · iexact HO
  isplitl [Hp1 Hd1]
  · isplitl [Hp1]; · iapply (Entails.of_eq (show pay (F := F) m c .rgR1 0 = own c rg1 fullShare (rs m (zp 1 c)) from rfl)) $$ Hp1
    iexact Hd1
  isplitl [Hp2]; · iapply (Entails.of_eq (show pay (F := F) m c .rgR2 0 = own c rg2 fullShare (rs m (zp 2 c)) from rfl)) $$ Hp2
  iexact Hd2

theorem part17 {α : Type} {Q : α → sProp 𝕄} (c : Dev nD) {v2 v5 v8 v12 : BitVec 32} {kk} :
    iprop(records m κ ∗ levAts L lv ∗ ow c (ppL c) ∗ poised c .rgR3 ∗ poised c .xpR ∗ onlyIf (qq c = 0) (own c xbM fullShare (xs m (fwd c)))
        ∗ own c rg0 s4 (rs m c) ∗ own c rg1 fullShare (rs m (zp 1 c)) ∗ own c rg2 fullShare (rs m (zp 2 c)))
      ⊢ iprop((iprop(ow c (ppL c) ∗ (own c rg3 fullShare (rs m (zp 3 c)) ∗ done m c .rgR3) ∗ (own c xbM fullShare (xs m (fwd c)) ∗ done m c .xpR)
            ∗ own c rg0 s4 (rs m c) ∗ own c rg1 fullShare (rs m (zp 1 c)) ∗ own c rg2 fullShare (rs m (zp 2 c)))
          -∗ wpb c (kk ⟨xs m (fwd c), iota .tc S256x16 32 [1] iota_S256x16_d1_w32,
              k0_pay22 v8 (lift4 (rs m c)) (lift4 (rs m (zp 1 c))) (lift4 (rs m (zp 2 c))) (lift4 (rs m (zp 3 c))) (xs m (fwd c)),
              k0_pay23 v8 (lift4 (rs m c)) (lift4 (rs m (zp 1 c))) (lift4 (rs m (zp 2 c))) (lift4 (rs m (zp 3 c))) (xs m (fwd c)),
              k0_pay24 v8 (lift4 (rs m c)) (lift4 (rs m (zp 1 c))) (lift4 (rs m (zp 2 c))) (lift4 (rs m (zp 3 c))) (xs m (fwd c)),
              k0_pay25 v8 (lift4 (rs m c)) (lift4 (rs m (zp 1 c))) (lift4 (rs m (zp 2 c))) (lift4 (rs m (zp 3 c))) (xs m (fwd c))⟩) Q)
          -∗ wpb (F := F) c (p17 F v2 v5 v8 (wq c) v12 >>= kk) Q) := by
  unfold p17
  simp only [k0_part17_eq_skeleton]
  unfold k0_part17_skel
  simp only [Prog.lift, Prog.bind_op, Prog.bind_ret, Prog.pure_eq_ret]
  iintro ⟨#HR, #HL, HO, H3, HX, Hb, Hs0, Hs1, Hs2⟩ Hk
  iapply (wait_dma m κ c .rgR3 (l := ppL c) (hs := by rfl) (hd := by first | rfl | exact if_neg hq) (hN := by rfl) (hl := lev_pp c)) $$ [HO H3]
  · isplitr; · iexact HR
    isplitr; · iexact HL
    isplitl [H3]; · iapply (ready_of_poised c .rgR3 rfl) $$ H3
    iexact HO
  iintro ⟨Hs3, Hd3, HO⟩
  iapply (load_slot c shapeCasts_S1024x4_S1x1024x4) $$ Hs0
  iintro Hs0
  iapply (load_slot c shapeCasts_S1024x4_S1x1024x4) $$ Hs1
  iintro Hs1
  iapply (load_slot c shapeCasts_S1024x4_S1x1024x4) $$ Hs2
  iintro Hs2
  ihave Hs3 := (show pay (F := F) m c .rgR3 0 ⊢ own c rg3 fullShare (rs m (zp 3 c)) from Entails.refl _) $$ Hs3
  iapply (load_slot c shapeCasts_S1024x4_S1x1024x4) $$ Hs3
  iintro Hs3
  by_cases hq : qq c = 0
  · rw [dif_neg (fun h => (nez_iff c).mp h hq)]
    simp only [Prog.bind_op, Prog.bind_ret, onlyIf_pos hq]
    iapply (load_own c hz2) $$ Hb
    iintro Hb
    iapply Hk
    isplitl [HO]; · iexact HO
    isplitl [Hs3 Hd3]
    · isplitl [Hs3]; · iexact Hs3
      iexact Hd3
    isplitl [Hb HX]
    · isplitl [Hb]; · iexact Hb
      iapply (done_of_poised m c .xpR (if_pos hq)) $$ HX
    isplitl [Hs0]; · iexact Hs0
    isplitl [Hs1]; · iexact Hs1
    iexact Hs2
  · rw [dif_pos ((nez_iff c).mpr hq)]
    simp only [Prog.bind_op, Prog.bind_ret, onlyIf_neg hq]
    iapply (wait_dma m κ c .xpR (l := ppL c) (hs := by rfl) (hd := by first | rfl | exact if_neg hq) (hN := by rfl) (hl := lev_pp c)) $$ [HO HX]
    · isplitr; · iexact HR
      isplitr; · iexact HL
      isplitl [HX]; · iapply (ready_of_poised c .xpR (if_neg hq)) $$ HX
      iexact HO
    iintro ⟨Hb, HdX, HO⟩
    ihave Hb := (show pay (F := F) m c .xpR 0 ⊢ own c xbM fullShare (xs m (fwd c)) from Entails.refl _) $$ Hb
    iapply (load_own c hz2) $$ Hb
    iintro Hb
    iapply Hk
    isplitl [HO]; · iexact HO
    isplitl [Hs3 Hd3]
    · isplitl [Hs3]; · iexact Hs3
      iexact Hd3
    isplitl [Hb HdX]
    · isplitl [Hb]; · iexact Hb
      iexact HdX
    isplitl [Hs0]; · iexact Hs0
    isplitl [Hs1]; · iexact Hs1
    iexact Hs2

/-- Parts 18 and 19: the kept weights of the first three experts read. -/
theorem part18 {α : Type} {Q : α → sProp 𝕄} (c : Dev nD) {v8 v458 v460 v462 v468 v472 v473} {kk} :
    iprop(own c w1cM fullShare (w1t m c) ∗ own c w2cM fullShare (w2t m c))
      ⊢ iprop((iprop(own c w1cM fullShare (w1t m c) ∗ own c w2cM fullShare (w2t m c))
          -∗ wpb c (kk ⟨k0_pay27 v460 v472 v473, k0_pay28 v462 v473, k0_pay29 v462 v473, k0_pay30 v458,
              k0_pay31 v8 v458 v460 v462 v468 v472 v473 (e1 m c ![0, 0, 0] inb_S4x1024x2048_S1x1024x2048_0_0_0) (e2 m c ![0, 0, 0] inb_S4x2048x1024_S1x2048x1024_0_0_0),
              e1 m c ![1, 0, 0] inb_S4x1024x2048_S1x1024x2048_1_0_0⟩) Q)
          -∗ wpb (F := F) c (p18 F v8 v458 v460 v462 v468 v472 v473 >>= kk) Q) := by
  unfold p18
  simp only [k0_part18_eq_skeleton]
  unfold k0_part18_skel
  simp only [Prog.lift, Prog.bind_op, Prog.bind_ret, Prog.pure_eq_ret]
  iintro ⟨H1, H2⟩ Hk
  iapply (load_rect c _ (read_e1 m c _ _)) $$ H1
  iintro H1
  iapply (load_rect c _ (read_e2 m c _ _)) $$ H2
  iintro H2
  iapply (load_rect c _ (read_e1 m c _ _)) $$ H1
  iintro H1
  iapply Hk
  isplitl [H1]; · iexact H1
  iexact H2

theorem part19 {α : Type} {Q : α → sProp 𝕄} (c : Dev nD) {v8 v468 v480 v486 v488 v489 v511 v512} {kk} :
    iprop(own c w1cM fullShare (w1t m c) ∗ own c w2cM fullShare (w2t m c))
      ⊢ iprop((iprop(own c w1cM fullShare (w1t m c) ∗ own c w2cM fullShare (w2t m c))
          -∗ wpb c (kk ⟨k0_pay32 v8 v468 v480 v486 v488 v489 v511 v512 (e2 m c ![1, 0, 0] inb_S4x2048x1024_S1x2048x1024_1_0_0),
              k0_pay33 v489 (e1 m c ![2, 0, 0] inb_S4x1024x2048_S1x1024x2048_2_0_0) (e2 m c ![2, 0, 0] inb_S4x2048x1024_S1x2048x1024_2_0_0),
              k0_pay34 v8 v468 v486, k0_pay35 v8⟩) Q)
          -∗ wpb (F := F) c (p19 F v8 v468 v480 v486 v488 v489 v511 v512 >>= kk) Q) := by
  unfold p19
  simp only [k0_part19_eq_skeleton]
  unfold k0_part19_skel
  simp only [Prog.lift, Prog.bind_op, Prog.bind_ret, Prog.pure_eq_ret]
  iintro ⟨H1, H2⟩ Hk
  iapply (load_rect c _ (read_e2 m c _ _)) $$ H2
  iintro H2
  iapply (load_rect c _ (read_e1 m c _ _)) $$ H1
  iintro H1
  iapply (load_rect c _ (read_e2 m c _ _)) $$ H2
  iintro H2
  iapply Hk
  isplitl [H1]; · iexact H1
  iexact H2

/-- Part 20: the last expert's weights read, the partial sum stored, and sent on. -/
theorem part20 {α : Type} {Q : α → sProp 𝕄} (c : Dev nD) {v2 v5 v8 v12 v468 v480 v486 v488 v489 v534 v543 v549 v550} {kk}
    (hw : k0_pay36 v8 v468 v480 v486 v488 v489 v534 v543 v549 v550 (e1 m c ![3, 0, 0] inb_S4x1024x2048_S1x1024x2048_3_0_0)
      (e2 m c ![3, 0, 0] inb_S4x2048x1024_S1x2048x1024_3_0_0) = psrc m c) :
    iprop(records m κ ∗ ow c (ppL c) ∗ (dt (c, .ppS) 0 ∗ dt (fwd c, .ppR) 0) ∗ (own c w1cM fullShare (w1t m c) ∗ own c w2cM fullShare (w2t m c))
        ∗ anyOf c psM ∗ onlyIf (qq c ≠ 0) (anyOf (fwd c) prM) ∗ at0 c .ppS)
      ⊢ iprop((iprop(ow c (axL c) ∗ (own c w1cM fullShare (w1t m c) ∗ own c w2cM fullShare (w2t m c)) ∗ onlyIf (qq c ≠ 0) (ready c .ppS)
            ∗ onlyIf (qq c = 0) iprop(own c psM fullShare (psrc m c) ∗ done m c .ppS))
          -∗ wpb c (kk (Scalar.extui (Scalar.cmpi .eq (wq c) 0#32))) Q)
          -∗ wpb (F := F) c (p20 F c v2 v5 v8 (wq c) v12 v468 v480 v486 v488 v489 v534 v543 v549 v550 >>= kk) Q) := by
  unfold p20
  simp only [k0_part20_eq_skeleton]
  unfold k0_part20_skel
  simp only [Prog.lift, Prog.bind_op, Prog.bind_ret, Prog.pure_eq_ret]
  iintro ⟨#HR, HO, ⟨Ht1, Ht2⟩, ⟨H1, H2⟩, Hp, Hd, Ha⟩ Hk
  iapply (load_rect c _ (read_e1 m c _ _)) $$ H1
  iintro H1
  iapply (load_rect c _ (read_e2 m c _ _)) $$ H2
  iintro H2
  iapply (load_any c) $$ Hp
  iintro %v Hp
  iapply (store_any c hz2) $$ Hp
  iintro Hp
  ihave Hp := (show _ ⊢ own (F := F) c psM fullShare (psrc m c) from Entails.of_eq (congrArg (own (F := F) c psM fullShare) hw)) $$ Hp
  by_cases hq : qq c = 0
  · rw [dif_neg (fun h => (cond4_iff c).mp h hq)]
    simp only [Prog.bind_op, Prog.bind_ret, onlyIf_pos hq, onlyIf_neg (not_not.mpr hq)]
    have hx : ppL c = axL c := by unfold ppL; rw [if_pos hq]
    rw [hx]
    iapply Hk
    isplitl [HO]; · iexact HO
    isplitl [H1 H2]
    · isplitl [H1]; · iexact H1
      iexact H2
    isplitr; · iempintro
    isplitl [Hp]; · iexact Hp
    iapply (done_of_at0 m c .ppS (if_pos hq)) $$ Ha
  · rw [dif_pos ((cond4_iff c).mpr hq)]
    simp only [Prog.bind_op, Prog.bind_ret, onlyIf_neg hq, onlyIf_pos (show qq c ≠ 0 from hq)]
    have hx : ppL c = (fwd c, .ppR) :: axL c := by unfold ppL; rw [if_neg hq]
    rw [hx]
    iapply (step_send m κ c (fwd c) .ppS .ppR (dev10_eq c ((cond4_iff c).mpr hq)) prM HEq.rfl rfl rfl
      (by show 0 ∈ (if qq c = 0 then (∅ : Finset (Fin 5)) else {0}); rw [if_neg hq]; exact Finset.mem_singleton_self _)
      (by show 0 ∈ (if qq (fwd c) = 0 then (∅ : Finset (Fin 5)) else {0}); rw [qq_fwd, if_neg hq]; exact Finset.mem_singleton_self _) rfl rfl rfl
      (by show own _ _ _ (psrc m (bwd (fwd c))) = _; rw [bwd_fwd])) $$ [HO Ht1 Ht2 Hp Hd]
    · isplitr; · iexact HR
      isplitl [Hp]; · iexact Hp
      isplitl [Hd]; · iexact Hd
      isplitl [HO]; · iexact HO
      isplitl [Ht1]; · iexact Ht1
      iexact Ht2
    iintro ⟨Hc, HO⟩
    iapply Hk
    isplitl [HO]; · iexact HO
    isplitl [H1 H2]
    · isplitl [H1]; · iexact H1
      iexact H2
    isplitl [Hc Ha]
    · unfold ready; isplitl [Hc]; · iexact Hc
      iexact Ha
    iempintro

end Cert.KernelIdealProof
-- ==== Proof.KernelIdeal.PartsC.lean ====
/-
# The parts of the body from the exchanges to the exit

One theorem per printed part: what it needs, what it leaves, over any continuation.
-/
module

public import proofs.«01_k».proof.Proof.KernelIdeal.PartsB
public import Idealize.ShloMosaic.Lib.VecWindow

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

theorem pay37_eq (v : Vec F S256x1024 .bf16) : k0_pay37 v = v := by
  unfold k0_pay37
  funext j
  show v (Shape.reshapeEquiv _ j) = v j
  simp only [Shape.reshapeEquiv_self]

/-- The device's own token block's partial sum in hand: received, or kept by a device at the start of the ring. -/
theorem part21 {α : Type} {Q : α → sProp 𝕄} (c : Dev nD) {v2 v5 v8 v15 v16 v17 : BitVec 32} {kk} :
    iprop(records m κ ∗ levAts L lv ∗ ow c (axL c) ∗ (dt (c, .axS) 0 ∗ dt (xp c, .axR) 0 ∗ dt (c, .ayS) 0 ∗ dt (yp c, .ayR) 0)
        ∗ onlyIf (qq c = 0) iprop(own c psM fullShare (psrc m c) ∗ done m c .ppS) ∗ onlyIf (qq c = 0) (anyOf c prM) ∗ poised c .ppR
        ∗ anyOf (xp c) pxM ∗ at0 c .axS ∗ poised c .axR ∗ anyOf c sxM ∗ anyOf (yp c) pyM ∗ at0 c .ayS)
      ⊢ iprop((iprop(ow c (extL c) ∗ onlyIf (qq c = 0) iprop(own c psM fullShare (psrc m c) ∗ done m c .ppS) ∗ (own c prM fullShare.right (prc m c) ∗ done m c .ppR)
            ∗ ready c .axS ∗ (own c pxM fullShare (prc m (xp c)) ∗ done m c .axR) ∗ ready c .ayS)
          -∗ wpb c (kk ⟨k0_pay38 (prc m c) (prc m (xp c)), Scalar.muli v2 8#32⟩) Q)
          -∗ wpb (F := F) c (p21 F c v2 v5 v8 (wq c) v15 v16 v17 (Scalar.extui (Scalar.cmpi .eq (wq c) 0#32)) >>= kk) Q) := by
  unfold p21
  simp only [k0_part21_eq_skeleton]
  unfold k0_part21_skel
  simp only [Prog.lift, Prog.bind_op, Prog.bind_ret, Prog.pure_eq_ret]
  have rest : ∀ (Q : α → sProp 𝕄) (kk : (Σ' (v610 : FVec F S256x1024 .f32), BitVec 32) → Prog (TpuEff nD τ sig (Elt F) Λ₀ .tc) α),
      iprop(records m κ ∗ levAts L lv ∗ ow c (axL c) ∗ (dt (c, .axS) 0 ∗ dt (xp c, .axR) 0 ∗ dt (c, .ayS) 0 ∗ dt (yp c, .ayR) 0)
        ∗ own c prM fullShare (prc m c) ∗ anyOf (xp c) pxM ∗ at0 c .axS ∗ poised c .axR ∗ anyOf c sxM ∗ anyOf (yp c) pyM ∗ at0 c .ayS)
      ⊢ iprop((iprop(ow c (extL c) ∗ own c prM fullShare.right (prc m c) ∗ ready c .axS ∗ (own c pxM fullShare (prc m (xp c)) ∗ done m c .axR) ∗ ready c .ayS)
          -∗ wpb c (kk ⟨k0_pay38 (prc m c) (prc m (xp c)), Scalar.muli v2 8#32⟩) Q)
          -∗ wpb (F := F) c
              (.op (.enqueueDma prM (.remote (Dev.tc (⟨k0_dev11 c, k0_dev11_lt c⟩ : Dev nD)) pxM (.dma cc0_scratch16.sem)) (.dma cc0_scratch17.sem)
                (Memref.isWhole_whole _).wordExact (Memref.isWhole_whole _).wordExact ⟨⟨rfl, Or.inl rfl⟩, trivial⟩) fun _ =>
              .op (.waitDma2 cc0_scratch17.sem prM pxM (Memref.isWhole_whole _).wordExact (Memref.isWhole_whole _).wordExact) fun _ =>
              .op (.load prM (Rect.unit (s := S256x1024) ![0, 0] S256x1024.size inb_S256x1024_S256x1024_0_0).toLoadRect (View.loadsAt_vmem h_S256x1024)) fun v606 =>
              .op (.load pxM (Rect.unit (s := S256x1024) ![0, 0] S256x1024.size inb_S256x1024_S256x1024_0_0).toLoadRect (View.loadsAt_vmem h_S256x1024)) fun v608 =>
              .op (.load sxM (Rect.unit (s := S256x1024) ![0, 0] S256x1024.size inb_S256x1024_S256x1024_0_0).toLoadRect (View.loadsAt_vmem h_S256x1024)) fun _ =>
              .op (.store sxM (Rect.unit (s := S256x1024) ![0, 0] S256x1024.size inb_S256x1024_S256x1024_0_0) (k0_pay39 v606 v608) Finset.univ
                (View.stores_vmem h_S256x1024 ((Memref.isWhole_whole _).storeExact_slice rfl _ packedbf16_S256x1024_S256x1024_0_0) (fun _ => rfl)) (.inl rfl)) fun _ =>
              .op (.enqueueDma sxM (.remote (Dev.tc (⟨k0_dev12 c, k0_dev12_lt c⟩ : Dev nD)) pyM (.dma cc0_scratch18.sem)) (.dma cc0_scratch19.sem)
                (Memref.isWhole_whole _).wordExact (Memref.isWhole_whole _).wordExact ⟨⟨rfl, Or.inl rfl⟩, trivial⟩) fun _ =>
              kk ⟨k0_pay38 v606 v608, Scalar.muli v2 8#32⟩) Q) := by
    intro Q kk
    iintro ⟨#HR, #HL, HO, ⟨Ht1, Ht2, Ht3, Ht4⟩, Hp, Hx, Haxs, Haxr, Hs, Hy, Hays⟩ Hk
    ihave Hp := (owns_halves (c : Thread nD τ) prM fullShare (prc m c)).1 $$ Hp
    icases Hp with ⟨Hpl, Hpr⟩
    unfold axL ayL
    iapply (step_send m κ c (xp c) .axS .axR (dev11_eq c) pxM HEq.rfl rfl rfl (Finset.mem_singleton_self _) (Finset.mem_singleton_self _) rfl rfl rfl
      (by show own _ _ _ (prc m (xp (xp c))) = _; rw [xp_xp])) $$ [HO Ht1 Ht2 Hpl Hx]
    · isplitr; · iexact HR
      isplitl [Hpl]; · iexact Hpl
      isplitl [Hx]; · iexact Hx
      isplitl [HO]; · iexact HO
      isplitl [Ht1]; · iexact Ht1
      iexact Ht2
    iintro ⟨Hcx, HO⟩
    iapply (wait_dma m κ c .axR (l := ayL c) (hs := by rfl) (hd := by rfl) (hN := by rfl) (hl := lev_ay c)) $$ [HO Haxr]
    · isplitr; · iexact HR
      isplitr; · iexact HL
      isplitl [Haxr]; · iapply (ready_of_poised c .axR rfl) $$ Haxr
      iexact HO
    iintro ⟨Hx, Hdx, HO⟩
    ihave Hx := (show pay (F := F) m c .axR 0 ⊢ own c pxM fullShare (prc m (xp c)) from Entails.refl _) $$ Hx
    iapply (load_own c hz2) $$ Hpr
    iintro Hpr
    iapply (load_own c hz2) $$ Hx
    iintro Hx
    iapply (load_any c) $$ Hs
    iintro %v Hs
    iapply (store_any c hz2) $$ Hs
    iintro Hs
    unfold ayL
    iapply (step_send m κ c (yp c) .ayS .ayR (dev12_eq c) pyM HEq.rfl rfl rfl (Finset.mem_singleton_self _) (Finset.mem_singleton_self _) rfl rfl rfl
      (by show own _ _ _ (sxy m (yp (yp c))) = _; rw [yp_yp])) $$ [HO Ht3 Ht4 Hs Hy]
    · isplitr; · iexact HR
      isplitl [Hs]; · iexact Hs
      isplitl [Hy]; · iexact Hy
      isplitl [HO]; · iexact HO
      isplitl [Ht3]; · iexact Ht3
      iexact Ht4
    iintro ⟨Hcy, HO⟩
    iapply Hk
    unfold ready
    isplitl [HO]; · iexact HO
    isplitl [Hpr]; · iexact Hpr
    isplitl [Hcx Haxs]
    · isplitl [Hcx]; · iexact Hcx
      iexact Haxs
    isplitl [Hx Hdx]
    · isplitl [Hx]; · iexact Hx
      iexact Hdx
    isplitl [Hcy]; · iexact Hcy
    iexact Hays
  iintro ⟨#HR, #HL, HO, HT, Hps, Hpr, Hpp, Hx, Haxs, Haxr, Hs, Hy, Hays⟩ Hk
  by_cases hq : qq c = 0
  · rw [dif_pos ((eqz_iff c).mpr hq), dif_neg (fun h => (nez_iff c).mp h hq)]
    simp only [Prog.bind_op, Prog.bind_ret, onlyIf_pos hq]
    icases Hps with ⟨Hps, Hds⟩
    iapply (load_own c hz2) $$ Hps
    iintro Hps
    iapply (load_any c) $$ Hpr
    iintro %v Hpr
    iapply (store_any c hz2) $$ Hpr
    iintro Hpr
    ihave Hpr := (show _ ⊢ own (F := F) c prM fullShare (prc m c) from Entails.of_eq (congrArg (own (F := F) c prM fullShare)
      (show k0_pay37 (psrc m c) = prc m c by unfold prc; rw [pay37_eq, bwd_of_zero hq]))) $$ Hpr
    iapply (rest Q kk) $$ [HO HT Hpr Hx Haxs Haxr Hs Hy Hays]
    · isplitr; · iexact HR
      isplitr; · iexact HL
      isplitl [HO]; · iexact HO
      isplitl [HT]; · iexact HT
      isplitl [Hpr]; · iexact Hpr
      isplitl [Hx]; · iexact Hx
      isplitl [Haxs]; · iexact Haxs
      isplitl [Haxr]; · iexact Haxr
      isplitl [Hs]; · iexact Hs
      isplitl [Hy]; · iexact Hy
      iexact Hays
    iintro ⟨HO, Hpr, H3⟩
    iapply Hk
    isplitl [HO]; · iexact HO
    isplitl [Hps Hds]
    · isplitl [Hps]; · iexact Hps
      iexact Hds
    isplitl [Hpr Hpp]
    · isplitl [Hpr]; · iexact Hpr
      iapply (done_of_poised m c .ppR (if_pos hq)) $$ Hpp
    iexact H3
  · rw [dif_neg (fun h => hq ((eqz_iff c).mp h)), dif_pos ((nez_iff c).mpr hq)]
    simp only [Prog.bind_op, Prog.bind_ret, onlyIf_neg hq]
    iapply (wait_dma m κ c .ppR (l := axL c) (hs := by rfl) (hd := by exact if_neg hq) (hN := by rfl) (hl := lev_ax c)) $$ [HO Hpp]
    · isplitr; · iexact HR
      isplitr; · iexact HL
      isplitl [Hpp]; · iapply (ready_of_poised c .ppR (if_neg hq)) $$ Hpp
      iexact HO
    iintro ⟨Hpr, Hdp, HO⟩
    iapply (rest Q kk) $$ [HO HT Hpr Hx Haxs Haxr Hs Hy Hays]
    · isplitr; · iexact HR
      isplitr; · iexact HL
      isplitl [HO]; · iexact HO
      isplitl [HT]; · iexact HT
      isplitl [Hpr]; · iapply (Entails.of_eq (show pay (F := F) m c .ppR 0 = own c prM fullShare (prc m c) from rfl)) $$ Hpr
      isplitl [Hx]; · iexact Hx
      isplitl [Haxs]; · iexact Haxs
      isplitl [Haxr]; · iexact Haxr
      isplitl [Hs]; · iexact Hs
      isplitl [Hy]; · iexact Hy
      iexact Hays
    iintro ⟨HO, Hpr, H3⟩
    iapply Hk
    isplitl [HO]; · iexact HO
    isplitr; · iempintro
    isplitl [Hpr Hdp]
    · isplitl [Hpr]; · iexact Hpr
      iexact Hdp
    iexact H3

/-- Part 22: the other pair's sum waited for, the output stored; two of the columns' sends waited for. -/
theorem part22 {α : Type} {Q : α → sProp 𝕄} (c : Dev nD) {v8 v17 v621 : BitVec 32} {v610} {kk} (hw : k0_pay40 v610 (sxy m (yp c)) = outAt m c) :
    iprop(records m κ ∗ levAts L lv ∗ ow c (extL c) ∗ poised c .ayR ∗ anyOf c oM ∗ ready c .rgS1 ∗ ready c .rgS2)
      ⊢ iprop((iprop(ow c (extL c) ∗ (own c pyM fullShare (sxy m (yp c)) ∗ done m c .ayR) ∗ own c oM fullShare (outAt m c)
            ∗ (own c rg0 s1 (rs m c) ∗ done m c .rgS1) ∗ own c rg0 s2 (rs m c) ∗ done m c .rgS2)
          -∗ wpb c (kk (Scalar.addi v8 3#32)) Q)
          -∗ wpb (F := F) c (p22 F v8 v17 v610 v621 >>= kk) Q) := by
  unfold p22
  simp only [k0_part22_eq_skeleton]
  unfold k0_part22_skel
  simp only [Prog.lift, Prog.bind_op, Prog.bind_ret, Prog.pure_eq_ret]
  iintro ⟨#HR, #HL, HO, Hy, Ho, H1, H2⟩ Hk
  iapply (wait_dma m κ c .ayR (l := extL c) (hs := by rfl) (hd := by rfl) (hN := by rfl) (hl := lev_ext c)) $$ [HO Hy]
  · isplitr; · iexact HR
    isplitr; · iexact HL
    isplitl [Hy]; · iapply (ready_of_poised c .ayR rfl) $$ Hy
    iexact HO
  iintro ⟨Hy, Hdy, HO⟩
  ihave Hy := (show pay (F := F) m c .ayR 0 ⊢ own c pyM fullShare (sxy m (yp c)) from Entails.refl _) $$ Hy
  iapply (load_own c hz2) $$ Hy
  iintro Hy
  iapply (load_any c) $$ Ho
  iintro %v Ho
  iapply (store_any c hz2) $$ Ho
  iintro Ho
  ihave Ho := (show _ ⊢ own (F := F) c oM fullShare (outAt m c) from Entails.of_eq (congrArg (own (F := F) c oM fullShare) hw)) $$ Ho
  iapply (wait_dma m κ c .rgS1 (l := extL c) (hs := by rfl) (hd := by rfl) (hN := by rfl) (hl := fun e he => lt_trans (by decide) (lev_ext c e he))) $$ [HO H1]
  · isplitr; · iexact HR
    isplitr; · iexact HL
    isplitl [H1]; · iexact H1
    iexact HO
  iintro ⟨H1, Hd1, HO⟩
  iapply (wait_dma m κ c .rgS2 (l := extL c) (hs := by rfl) (hd := by rfl) (hN := by rfl) (hl := fun e he => lt_trans (by decide) (lev_ext c e he))) $$ [HO H2]
  · isplitr; · iexact HR
    isplitr; · iexact HL
    isplitl [H2]; · iexact H2
    iexact HO
  iintro ⟨H2, Hd2, HO⟩
  iapply Hk
  isplitl [HO]; · iexact HO
  isplitl [Hy Hdy]
  · isplitl [Hy]; · iexact Hy
    iexact Hdy
  isplitl [Ho]; · iexact Ho
  isplitl [H1 Hd1]
  · isplitl [H1]; · iapply (Entails.of_eq (show pay (F := F) m c .rgS1 0 = own c rg0 s1 (rs m c) from rfl)) $$ H1
    iexact Hd1
  isplitl [H2]; · iapply (Entails.of_eq (show pay (F := F) m c .rgS2 0 = own c rg0 s2 (rs m c) from rfl)) $$ H2
  iexact Hd2

omit [FloatOps F] [Named F] in
/-- A send's wait that only some devices make, or the buffer already at hand. -/
theorem ext_low (c : Dev nD) (k : K) (hk : klev k ≤ 5) : ∀ e ∈ extL c, klev k < klev e.2 := fun e he => lt_of_le_of_lt hk (lev_ext c e he)

/-- Part 23: the other sends waited for, and the first exit signal. -/
theorem part23 {α : Type} {Q : α → sProp 𝕄} (c : Dev nD) {v2 v5 v8 v647 : BitVec 32} {l : List (Dev nD × K)} (hl : extL c = (zp 1 c, .ext) :: l) {kk} :
    iprop(records m κ ∗ levAts L lv ∗ ow c (extL c) ∗ ready c .rgS3 ∗ (onlyIf (qq c ≠ 0) (ready c .xpS) ∗ onlyIf (qq c ≠ 0) (ready c .ppS))
        ∗ ready c .axS ∗ ready c .ayS ∗ dt (zp 1 c, .ext) 0)
      ⊢ iprop((iprop(ow c l ∗ (own c rg0 s3 (rs m c) ∗ done m c .rgS3)
            ∗ onlyIf (qq c ≠ 0) iprop((own c xM fullShare (xs m c) ∗ done m c .xpS) ∗ own c psM fullShare (psrc m c) ∗ done m c .ppS)
            ∗ (own c prM fullShare.left (prc m c) ∗ done m c .axS) ∗ own c sxM fullShare (sxy m c) ∗ done m c .ayS)
          -∗ wpb c (kk ⟨Scalar.remsi (Scalar.addi v8 2#32) 4#32, Scalar.remsi (Scalar.addi v8 3#32) 4#32, 8#32⟩) Q)
          -∗ wpb (F := F) c (p23 F c v2 v5 v8 (wq c) v647 >>= kk) Q) := by
  unfold p23
  simp only [k0_part23_eq_skeleton]
  unfold k0_part23_skel
  simp only [semSignalWord, Prog.lift, Prog.bind_op, Prog.bind_ret, Prog.pure_eq_ret]
  iintro ⟨#HR, #HL, HO, H3, ⟨HX, HP⟩, Hax, Hay, Ht⟩ Hk
  iapply (wait_dma m κ c .rgS3 (l := extL c) (hs := by rfl) (hd := by rfl) (hN := by rfl) (hl := ext_low c _ (by decide))) $$ [HO H3]
  · isplitr; · iexact HR
    isplitr; · iexact HL
    isplitl [H3]; · iexact H3
    iexact HO
  iintro ⟨H3, Hd3, HO⟩
  by_cases hq : qq c = 0
  · simp only [dif_neg (fun h => (nez_iff c).mp h hq), Prog.bind_op, Prog.bind_ret, onlyIf_neg (not_not.mpr hq)]
    iapply (wait_dma m κ c .axS (l := extL c) (hs := by rfl) (hd := by rfl) (hN := by rfl) (hl := ext_low c _ (by decide))) $$ [HO Hax]
    · isplitr; · iexact HR
      isplitr; · iexact HL
      isplitl [Hax]; · iexact Hax
      iexact HO
    iintro ⟨Hax, Hdax, HO⟩
    iapply (wait_dma m κ c .ayS (l := extL c) (hs := by rfl) (hd := by rfl) (hN := by rfl) (hl := ext_low c _ (by decide))) $$ [HO Hay]
    · isplitr; · iexact HR
      isplitr; · iexact HL
      isplitl [Hay]; · iexact Hay
      iexact HO
    iintro ⟨Hay, Hday, HO⟩
    rw [hl]
    iapply (step_signal m κ c (zp 1 c, .ext) 0 (dev13_eq c) rfl (Finset.mem_univ _) rfl (by decide)) $$ [HO Ht]
    · isplitr; · iexact HR
      isplitl [HO]; · iexact HO
      isplitl [Ht]; · iexact Ht
      iempintro
    iintro HO
    iapply Hk
    isplitl [HO]; · iexact HO
    isplitl [H3 Hd3]
    · isplitl [H3]; · iapply (Entails.of_eq (show pay (F := F) m c .rgS3 0 = own c rg0 s3 (rs m c) from rfl)) $$ H3
      iexact Hd3
    isplitr; · iempintro
    isplitl [Hax Hdax]
    · isplitl [Hax]; · iapply (Entails.of_eq (show pay (F := F) m c .axS 0 = own c prM fullShare.left (prc m c) from rfl)) $$ Hax
      iexact Hdax
    isplitl [Hay]; · iapply (Entails.of_eq (show pay (F := F) m c .ayS 0 = own c sxM fullShare (sxy m c) from rfl)) $$ Hay
    iexact Hday
  · simp only [dif_pos ((nez_iff c).mpr hq), Prog.bind_op, Prog.bind_ret, onlyIf_pos (show qq c ≠ 0 from hq)]
    iapply (wait_dma m κ c .xpS (l := extL c) (hs := by rfl) (hd := by exact if_neg hq) (hN := by rfl) (hl := ext_low c _ (by decide))) $$ [HO HX]
    · isplitr; · iexact HR
      isplitr; · iexact HL
      isplitl [HX]; · iexact HX
      iexact HO
    iintro ⟨HX, HdX, HO⟩
    iapply (wait_dma m κ c .ppS (l := extL c) (hs := by rfl) (hd := by exact if_neg hq) (hN := by rfl) (hl := ext_low c _ (by decide))) $$ [HO HP]
    · isplitr; · iexact HR
      isplitr; · iexact HL
      isplitl [HP]; · iexact HP
      iexact HO
    iintro ⟨HP, HdP, HO⟩
    iapply (wait_dma m κ c .axS (l := extL c) (hs := by rfl) (hd := by rfl) (hN := by rfl) (hl := ext_low c _ (by decide))) $$ [HO Hax]
    · isplitr; · iexact HR
      isplitr; · iexact HL
      isplitl [Hax]; · iexact Hax
      iexact HO
    iintro ⟨Hax, Hdax, HO⟩
    iapply (wait_dma m κ c .ayS (l := extL c) (hs := by rfl) (hd := by rfl) (hN := by rfl) (hl := ext_low c _ (by decide))) $$ [HO Hay]
    · isplitr; · iexact HR
      isplitr; · iexact HL
      isplitl [Hay]; · iexact Hay
      iexact HO
    iintro ⟨Hay, Hday, HO⟩
    rw [hl]
    iapply (step_signal m κ c (zp 1 c, .ext) 0 (dev13_eq c) rfl (Finset.mem_univ _) rfl (by decide)) $$ [HO Ht]
    · isplitr; · iexact HR
      isplitl [HO]; · iexact HO
      isplitl [Ht]; · iexact Ht
      iempintro
    iintro HO
    iapply Hk
    isplitl [HO]; · iexact HO
    isplitl [H3 Hd3]
    · isplitl [H3]; · iapply (Entails.of_eq (show pay (F := F) m c .rgS3 0 = own c rg0 s3 (rs m c) from rfl)) $$ H3
      iexact Hd3
    isplitl [HX HdX HP HdP]
    · isplitl [HX HdX]
      · isplitl [HX]; · iapply (Entails.of_eq (show pay (F := F) m c .xpS 0 = own c xM fullShare (xs m c) from rfl)) $$ HX
        iexact HdX
      isplitl [HP]; · iapply (Entails.of_eq (show pay (F := F) m c .ppS 0 = own c psM fullShare (psrc m c) from rfl)) $$ HP
      iexact HdP
    isplitl [Hax Hdax]
    · isplitl [Hax]; · iapply (Entails.of_eq (show pay (F := F) m c .axS 0 = own c prM fullShare.left (prc m c) from rfl)) $$ Hax
      iexact Hdax
    isplitl [Hay]; · iapply (Entails.of_eq (show pay (F := F) m c .ayS 0 = own c sxM fullShare (sxy m c) from rfl)) $$ Hay
    iexact Hday

end Cert.KernelIdealProof
-- ==== Proof.KernelIdeal.Body.lean ====
/-
# The kernel's body

The parts put together: from what a device holds when its body starts to what it holds when it ends.
-/
module

public import proofs.«01_k».proof.Proof.KernelIdeal.PartsC
public import Idealize.ShloMosaic.Lib.VecWindow

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

/-- The body's parts in a row, each given what the earlier ones computed. -/
theorem p24_eq : (p24 F) = (p1 F >>= fun a => p2 F a.1 a.2.1 a.2.2.1 a.2.2.2.1 a.2.2.2.2.2.2.2.1 a.2.2.2.2.2.2.2.2.1 a.2.2.2.2.2.2.2.2.2.1
      a.2.2.2.2.2.2.2.2.2.2.1 a.2.2.2.2.2.2.2.2.2.2.2.1 a.2.2.2.2.2.2.2.2.2.2.2.2.1 a.2.2.2.2.2.2.2.2.2.2.2.2.2 >>= fun v60 =>
    p3 F a.1 a.2.1 a.2.2.1 a.2.2.2.1 v60 >>= fun _ => p4 F a.1 a.2.1 a.2.2.1 a.2.2.2.1 a.2.2.2.2.1 a.2.2.2.2.2.2.1 >>= fun _ =>
    p5 F >>= fun _ => p6 F >>= fun _ => p7 F >>= fun _ => p8 F >>= fun v => p9 F v.1 v.2 >>= fun _ => p10 F >>= fun v => p11 F v >>= fun _ =>
    p12 F >>= fun v => p13 F v >>= fun _ => p14 F >>= fun _ => p15 F a.2.1 a.2.2.1 a.2.2.2.1 >>= fun _ => p16 F a.2.1 a.2.2.1 a.2.2.2.1 >>= fun _ =>
    p17 F a.2.1 a.2.2.1 a.2.2.2.1 a.2.2.2.2.1 a.2.2.2.2.2.1 >>= fun g =>
    p18 F a.2.2.2.1 g.1 g.2.1 g.2.2.1 g.2.2.2.1 g.2.2.2.2.1 g.2.2.2.2.2 >>= fun h =>
    p19 F a.2.2.2.1 g.2.2.2.1 h.1 h.2.1 h.2.2.1 h.2.2.2.1 h.2.2.2.2.1 h.2.2.2.2.2 >>= fun i =>
    p20 F a.1 a.2.1 a.2.2.1 a.2.2.2.1 a.2.2.2.2.1 a.2.2.2.2.2.1 g.2.2.2.1 h.1 h.2.1 h.2.2.1 h.2.2.2.1 i.1 i.2.1 i.2.2.1 i.2.2.2 >>= fun v589 =>
    p21 F a.1 a.2.1 a.2.2.1 a.2.2.2.1 a.2.2.2.2.1 a.2.2.2.2.2.2.1 a.2.2.2.2.2.2.2.1 a.2.2.2.2.2.2.2.2.1 v589 >>= fun o =>
    p22 F a.2.2.2.1 a.2.2.2.2.2.2.2.2.1 o.1 o.2 >>= fun v647 => p23 F a.1 a.2.1 a.2.2.1 a.2.2.2.1 a.2.2.2.2.1 v647 >>= fun _ =>
    semSignalWord (⟨k0_dev14 a.1, k0_dev14_lt a.1⟩ : Dev nD) extS 1#32 >>= fun _ =>
    semSignalWord (⟨k0_dev15 a.1, k0_dev15_lt a.1⟩ : Dev nD) extS 1#32 >>= fun _ =>
    semSignalWord (⟨k0_dev16 a.1, k0_dev16_lt a.1⟩ : Dev nD) extS 1#32 >>= fun _ =>
    pure ⟨a.1, a.2.2.2.1, a.2.2.2.2.2.2.2.2.1, Scalar.muli a.2.1 8#32⟩) := by
  unfold p24
  rw [k0_part24_eq_skeleton]
  rfl

omit [FloatOps F] [Named F] in
theorem onlyIf_sep (p : Prop) [Decidable p] (P P' : sProp 𝕄) : onlyIf (F := F) p iprop(P ∗ P') ⊢ iprop(onlyIf p P ∗ onlyIf p P') := by
  by_cases h : p
  · simp only [onlyIf_pos h]; exact Entails.refl _
  · simp only [onlyIf_neg h]; iintro -; isplitl []; · iempintro
    iempintro
omit [FloatOps F] [Named F] in
theorem onlyIf_join (p : Prop) [Decidable p] (P P' : sProp 𝕄) : iprop(onlyIf (F := F) p P ∗ onlyIf p P') ⊢ onlyIf p iprop(P ∗ P') := by
  by_cases h : p
  · simp only [onlyIf_pos h]; exact Entails.refl _
  · simp only [onlyIf_neg h]; iintro -; iempintro
omit [FloatOps F] [Named F] in
theorem either (p : Prop) [Decidable p] (P : sProp 𝕄) : iprop(onlyIf (F := F) p P ∗ onlyIf (¬ p) P) ⊢ P := by
  by_cases h : p
  · simp only [onlyIf_pos h, onlyIf_neg (not_not.mpr h)]; iintro ⟨H, -⟩; iexact H
  · simp only [onlyIf_neg h, onlyIf_pos h]; iintro ⟨-, H⟩; iexact H

/-- The tokens of the duties a device pays, in the order the parts use them. -/
def tokens (c : Dev nD) : sProp 𝕄 :=
  iprop(dt (zp 1 c, .bar) 0 ∗ (dt (zp 2 c, .bar) 1 ∗ dt (zp 3 c, .bar) 2 ∗ dt (xp c, .bar) 3 ∗ dt (yp c, .bar) 4)
    ∗ (dt (c, .rgS1) 0 ∗ dt (zp 1 c, .rgR3) 0 ∗ dt (c, .rgS2) 0 ∗ dt (zp 2 c, .rgR2) 0)
    ∗ (dt (c, .rgS3) 0 ∗ dt (zp 3 c, .rgR1) 0 ∗ dt (c, .xpS) 0 ∗ dt (bwd c, .xpR) 0)
    ∗ (dt (c, .ppS) 0 ∗ dt (fwd c, .ppR) 0)
    ∗ (dt (c, .axS) 0 ∗ dt (xp c, .axR) 0 ∗ dt (c, .ayS) 0 ∗ dt (yp c, .ayR) 0)
    ∗ dt (zp 1 c, .ext) 0 ∗ dt (zp 2 c, .ext) 1 ∗ dt (zp 3 c, .ext) 2 ∗ dt (xp c, .ext) 3 ∗ dt (yp c, .ext) 4)

/-- The device's cells before it has waited for any. -/
def cellsPre (c : Dev nD) : sProp 𝕄 :=
  iprop((poised c .bar ∗ poised c .ext) ∗ (at0 c .rgS1 ∗ at0 c .rgS2 ∗ at0 c .rgS3) ∗ (poised c .rgR1 ∗ poised c .rgR2 ∗ poised c .rgR3)
    ∗ (at0 c .xpS ∗ poised c .xpR) ∗ (at0 c .ppS ∗ poised c .ppR) ∗ (at0 c .axS ∗ poised c .axR) ∗ at0 c .ayS ∗ poised c .ayR)

/-- The device's cells after all the waits. -/
def cellsPost (c : Dev nD) : sProp 𝕄 :=
  iprop((done m c .bar ∗ done m c .ext) ∗ (done m c .rgS1 ∗ done m c .rgS2 ∗ done m c .rgS3) ∗ (done m c .rgR1 ∗ done m c .rgR2 ∗ done m c .rgR3)
    ∗ (done m c .xpS ∗ done m c .xpR) ∗ (done m c .ppS ∗ done m c .ppR) ∗ (done m c .axS ∗ done m c .axR) ∗ done m c .ayS ∗ done m c .ayR)

/-- The two slots the pieces go through, with the weights' halves and the two idle semaphores. -/
def idles (c : Dev nD) : sProp 𝕄 :=
  iprop(idle m c fullShare.left (wdS ![0] inb_S2_S1_0) ![0, 0, 0] inb_S2x1024x1024_S1x1024x1024_0_0_0
    ∗ idle m c fullShare.right (wdS ![1] inb_S2_S1_1) ![1, 0, 0] inb_S2x1024x1024_S1x1024x1024_1_0_0)

/-- The buffers of the body, whatever they hold. -/
def scratch (c : Dev nD) : sProp 𝕄 :=
  iprop((anyOf c rg0 ∗ anyOf c rg1 ∗ anyOf c rg2 ∗ anyOf c rg3) ∗ anyOf c xbM ∗ anyOf c psM ∗ anyOf c prM ∗ anyOf c pxM ∗ anyOf c sxM ∗ anyOf c pyM
    ∗ anyOf c w1cM ∗ anyOf c w2cM)

/-- The exit: the last signals, and the wait for the five of the neighbours'. -/
theorem finish {Q : PUnit → sProp 𝕄} (c : Dev nD) :
    iprop(records m κ ∗ levAts L lv ∗ ow c [(zp 2 c, .ext), (zp 3 c, .ext), (xp c, .ext), (yp c, .ext)]
        ∗ (dt (zp 2 c, .ext) 1 ∗ dt (zp 3 c, .ext) 2 ∗ dt (xp c, .ext) 3 ∗ dt (yp c, .ext) 4) ∗ poised c .ext)
      ⊢ iprop((iprop(ow c [] ∗ done m c .ext) -∗ Q ⟨⟩)
          -∗ wpb (F := F) c (semSignalWord (⟨k0_dev14 c, k0_dev14_lt c⟩ : Dev nD) extS 1#32 >>= fun _ =>
            semSignalWord (⟨k0_dev15 c, k0_dev15_lt c⟩ : Dev nD) extS 1#32 >>= fun _ =>
            semSignalWord (⟨k0_dev16 c, k0_dev16_lt c⟩ : Dev nD) extS 1#32 >>= fun _ =>
            semSignalWord (⟨k0_dev17 c, k0_dev17_lt c⟩ : Dev nD) extS 1#32 >>= fun _ =>
            semWaitWord extS 5#32 >>= fun _ => pure ⟨⟩) Q) := by
  simp only [semSignalWord, semWaitWord, Prog.lift, Prog.bind_op, Prog.bind_ret, Prog.pure_eq_ret]
  unfold poised
  iintro ⟨#HR, #HL, HO, ⟨Ht1, Ht2, Ht3, Ht4⟩, Hc, Hat⟩ Hk
  iapply (step_signal m κ c (zp 2 c, .ext) 1 (dev14_eq c) rfl (Finset.mem_univ _) rfl (by decide)) $$ [HO Ht1]
  · isplitr; · iexact HR
    isplitl [HO]; · iexact HO
    isplitl [Ht1]; · iexact Ht1
    iempintro
  iintro HO
  iapply (step_signal m κ c (zp 3 c, .ext) 2 (dev15_eq c) rfl (Finset.mem_univ _) rfl (by decide)) $$ [HO Ht2]
  · isplitr; · iexact HR
    isplitl [HO]; · iexact HO
    isplitl [Ht2]; · iexact Ht2
    iempintro
  iintro HO
  iapply (step_signal m κ c (xp c, .ext) 3 (dev16_eq c) rfl (Finset.mem_univ _) rfl (by decide)) $$ [HO Ht3]
  · isplitr; · iexact HR
    isplitl [HO]; · iexact HO
    isplitl [Ht3]; · iexact Ht3
    iempintro
  iintro HO
  iapply (step_signal m κ c (yp c, .ext) 4 (dev17_eq c) rfl (Finset.mem_univ _) rfl (by decide)) $$ [HO Ht4]
  · isplitr; · iexact HR
    isplitl [HO]; · iexact HO
    isplitl [Ht4]; · iexact Ht4
    iempintro
  iintro HO
  iapply (step_wait m κ c .ext (N := 5) rfl (wpE_semWait_eq 𝒱₀ (c : Thread nD τ) none Set.univ) rfl (fun e he => absurd he List.not_mem_nil)) $$ [HO Hc Hat]
  · isplitr; · iexact HR
    isplitr; · iexact HL
    isplitl [Hc]; · iapply (Entails.of_eq (show cred (tallyAt (kc (c, K.ext)) () ((dut c .ext).card * amt .ext)) = (cred (tallyAt (kc (c, K.ext)) () 5) : sProp 𝕄) from rfl)) $$ Hc
    isplitl [HO]; · iexact HO
    iexact Hat
  iintro ⟨HO, Hf, -⟩
  unfold wpb; rw [wp_ret]; imodintro
  iapply Hk
  isplitl [HO]; · iexact HO
  iapply (done_of_fin m c .ext); iexact Hf

set_option maxHeartbeats 1000000 in
/-- The body, part by part. -/
theorem body_run {Q : PUnit → sProp 𝕄} (c : Dev nD) :
    iprop(records m κ ∗ levAts L lv ∗ ow c (barL c) ∗ tokens c ∗ cellsPre c ∗ idles m c ∗ scratch c ∗ own c xM fullShare (xs m c) ∗ own c rM fullShare (rs m c) ∗ anyOf c oM)
      ⊢ iprop((iprop(ow c [] ∗ cellsPost m c ∗ idles m c ∗ scratch c ∗ own c xM fullShare (xs m c) ∗ own c rM fullShare (rs m c) ∗ own c oM fullShare (outAt m c)) -∗ Q ⟨⟩)
          -∗ wpb (F := F) c (p24 F >>= fun a => semSignalWord (⟨k0_dev17 a.1, k0_dev17_lt a.1⟩ : Dev nD) extS 1#32 >>= fun _ =>
            semWaitWord extS 5#32 >>= fun _ => pure ⟨⟩) Q) := by
  rw [p24_eq]
  simp only [Prog.bind_assoc]
  unfold tokens cellsPre idles scratch
  iintro ⟨#HR, #HL, HO, ⟨Ht0, Ht1, Ht2, Ht3, Ht4, Ht5, Ht6⟩, ⟨⟨HcB, HcE⟩, ⟨HaS1, HaS2, HaS3⟩, ⟨HaR1, HaR2, HaR3⟩, ⟨HaXS, HaXR⟩, ⟨HaPS, HaPR⟩, ⟨HaAS, HaAR⟩, HaYS, HaYR⟩,
    ⟨HI0, HI1⟩, ⟨⟨Hg0, Hg1, Hg2, Hg3⟩, Hxb, Hps, Hpr, Hpx, Hsx, Hpy, Hw1, Hw2⟩, Hx, Hr, Ho⟩ Hk
  ihave Hxb := (handout c (anyOf c xbM)) $$ Hxb
  icases Hxb with ⟨Hxb0, Hxb1, Hxb2, Hxb3⟩
  ihave Hpr := (handout c (anyOf c prM)) $$ Hpr
  icases Hpr with ⟨Hpr0, Hpr1, Hpr2, Hpr3⟩
  unfold barL
  iapply (part1 m κ c) $$ [HO Ht0 Hg1 Hxb1 Hpr3]
  · isplitr; · iexact HR
    isplitl [HO]; · iexact HO
    isplitl [Ht0]; · iexact Ht0
    isplitl [Hg1]; · iexact Hg1
    isplitl [Hxb1]; · iexact Hxb1
    iexact Hpr3
  iintro HO
  dsimp only
  unfold poised
  icases HcB with ⟨HcB, HaB⟩
  iapply (part2 m κ c) $$ [HO Ht1 Hg2 Hxb2 Hpr2 Hg3 Hxb3 Hpr1 Hpx Hpy HcB HaB Hr Hg0]
  · isplitr; · iexact HR
    isplitr; · iexact HL
    isplitl [HO]; · iexact HO
    isplitl [Ht1]; · iexact Ht1
    isplitl [Hg2 Hxb2 Hpr2]
    · isplitl [Hg2]; · iexact Hg2
      isplitl [Hxb2]; · iexact Hxb2
      iexact Hpr2
    isplitl [Hg3 Hxb3 Hpr1]
    · isplitl [Hg3]; · iexact Hg3
      isplitl [Hxb3]; · iexact Hxb3
      iexact Hpr1
    isplitl [Hpx]; · iexact Hpx
    isplitl [Hpy]; · iexact Hpy
    isplitl [HcB]; · iapply (Entails.of_eq (show cred (tallyAt (kc (c, K.bar)) () ((dut c .bar).card * amt .bar)) = (cred (tallyAt (kc (c, K.bar)) () 5) : sProp 𝕄) from rfl)) $$ HcB
    isplitl [HaB]; · iexact HaB
    isplitl [Hr]; · iexact Hr
    iexact Hg0
  iintro ⟨HO, HdB, ⟨Hn1, Hn2, Hn3, Hnx, Hny, Hnb, Hnf⟩, Hr, Hg0⟩
  ihave Hg0 := (share_rg0 c (rs m c)).1 $$ Hg0
  icases Hg0 with ⟨⟨Hq1, Hq2⟩, Hq3, Hq4⟩
  unfold rgL
  iapply (part3 m κ c) $$ [HO Ht2 Hq1 Hq2 Hn3 Hn2 HaS1 HaS2]
  · isplitr; · iexact HR
    isplitl [HO]; · iexact HO
    isplitl [Ht2]; · iexact Ht2
    isplitl [Hq1]; · iexact Hq1
    isplitl [Hq2]; · iexact Hq2
    isplitl [Hn3]; · iexact Hn3
    isplitl [Hn2]; · iexact Hn2
    isplitl [HaS1]; · iexact HaS1
    iexact HaS2
  iintro ⟨HO, HrS1, HrS2⟩
  iapply (part4 m κ c) $$ [HO Ht3 Hq3 Hn1 HaS3 Hx Hnb Hxb0 HaXS HI0]
  · isplitr; · iexact HR
    isplitl [HO]; · iexact HO
    isplitl [Ht3]; · iexact Ht3
    isplitl [Hq3]; · iexact Hq3
    isplitl [Hn1]; · iexact Hn1
    isplitl [HaS3]; · iexact HaS3
    isplitl [Hx]; · iexact Hx
    isplitl [Hnb]; · iexact Hnb
    isplitl [Hxb0]; · iexact Hxb0
    isplitl [HaXS]; · iexact HaXS
    iexact HI0
  iintro ⟨HO, HrS3, HrX, HX, HI0⟩
  ihave HX := (onlyIf_sep (qq c = 0) _ _) $$ HX
  icases HX with ⟨HX, HXb⟩
  ihave HXb := (onlyIf_sep (qq c = 0) _ _) $$ HXb
  icases HXb with ⟨HXb, HXd⟩
  iapply (stage m c (l := ppL c) (fun e he => lt_trans (by decide) (lev_pp c e he))) $$ [HO HI0 HI1 Hw1 Hw2]
  · isplitr; · iexact HL
    isplitl [HI0]; · iexact HI0
    isplitl [HI1]; · iexact HI1
    isplitl [HO]; · iexact HO
    isplitl [Hw1]; · iexact Hw1
    iexact Hw2
  iintro ⟨HI0, HI1, HO, Hw1, Hw2⟩
  iapply (part16 m κ c) $$ [HO HaR1 HaR2]
  · isplitr; · iexact HR
    isplitr; · iexact HL
    isplitl [HO]; · iexact HO
    isplitl [HaR1]; · unfold poised; iexact HaR1
    unfold poised; iexact HaR2
  iintro ⟨HO, ⟨Hg1, HdR1⟩, Hg2, HdR2⟩
  iapply (part17 m κ c) $$ [HO HaR3 HaXR HXb Hq4 Hg1 Hg2]
  · isplitr; · iexact HR
    isplitr; · iexact HL
    isplitl [HO]; · iexact HO
    isplitl [HaR3]; · unfold poised; iexact HaR3
    isplitl [HaXR]; · unfold poised; iexact HaXR
    isplitl [HXb]; · iexact HXb
    isplitl [Hq4]; · iexact Hq4
    isplitl [Hg1]; · iexact Hg1
    iexact Hg2
  iintro ⟨HO, ⟨Hg3, HdR3⟩, ⟨Hxb, HdXR⟩, Hq4, Hg1, Hg2⟩
  iapply (part18 m c) $$ [Hw1 Hw2]
  · isplitl [Hw1]; · iexact Hw1
    iexact Hw2
  iintro Hw
  iapply (part19 m c) $$ Hw
  iintro Hw
  iapply (part20 m κ c rfl) $$ [HO Ht4 Hw Hps Hnf HaPS]
  · isplitr; · iexact HR
    isplitl [HO]; · iexact HO
    isplitl [Ht4]; · iexact Ht4
    isplitl [Hw]; · iexact Hw
    isplitl [Hps]; · iexact Hps
    isplitl [Hnf]; · iexact Hnf
    iexact HaPS
  iintro ⟨HO, ⟨Hw1, Hw2⟩, HrP, Hps⟩
  iapply (part21 m κ c) $$ [HO Ht5 Hps Hpr0 HaPR Hnx HaAS HaAR Hsx Hny HaYS]
  · isplitr; · iexact HR
    isplitr; · iexact HL
    isplitl [HO]; · iexact HO
    isplitl [Ht5]; · iexact Ht5
    isplitl [Hps]; · iexact Hps
    isplitl [Hpr0]; · iexact Hpr0
    isplitl [HaPR]; · unfold poised; iexact HaPR
    isplitl [Hnx]; · iexact Hnx
    isplitl [HaAS]; · iexact HaAS
    isplitl [HaAR]; · unfold poised; iexact HaAR
    isplitl [Hsx]; · iexact Hsx
    isplitl [Hny]; · iexact Hny
    iexact HaYS
  iintro ⟨HO, HPs, ⟨Hpr, HdPR⟩, HrA, ⟨Hpx, HdAR⟩, HrY⟩
  iapply (part22 m κ c rfl) $$ [HO HaYR Ho HrS1 HrS2]
  · isplitr; · iexact HR
    isplitr; · iexact HL
    isplitl [HO]; · iexact HO
    isplitl [HaYR]; · unfold poised; iexact HaYR
    isplitl [Ho]; · iexact Ho
    isplitl [HrS1]; · iexact HrS1
    iexact HrS2
  iintro ⟨HO, ⟨Hpy, HdYR⟩, Ho, ⟨Hq1, HdS1⟩, Hq2, HdS2⟩
  icases Ht6 with ⟨Ht7, Ht8⟩
  iapply (part23 m κ c rfl) $$ [HO HrS3 HrX HrP HrA HrY Ht7]
  · isplitr; · iexact HR
    isplitr; · iexact HL
    isplitl [HO]; · iexact HO
    isplitl [HrS3]; · iexact HrS3
    isplitl [HrX HrP]
    · isplitl [HrX]; · iexact HrX
      iexact HrP
    isplitl [HrA]; · iexact HrA
    isplitl [HrY]; · iexact HrY
    iexact Ht7
  iintro ⟨HO, ⟨Hq3, HdS3⟩, HXP, ⟨Hprl, HdAS⟩, Hsx, HdYS⟩
  ihave HXP := (onlyIf_sep (qq c ≠ 0) _ _) $$ HXP
  icases HXP with ⟨HX', HP'⟩
  ihave HX := (either (qq c = 0) iprop(own c xM fullShare (xs m c) ∗ done m c .xpS)) $$ [HX HXd HX']
  · isplitl [HX HXd]
    · iapply (onlyIf_join (qq c = 0) _ _)
      isplitl [HX]; · iexact HX
      iexact HXd
    iexact HX'
  icases HX with ⟨Hx, HdXS⟩
  ihave HP := (either (qq c = 0) iprop(own c psM fullShare (psrc m c) ∗ done m c .ppS)) $$ [HPs HP']
  · isplitl [HPs]; · iexact HPs
    iexact HP'
  icases HP with ⟨Hps, HdPS⟩
  iapply (finish m κ c) $$ [HO Ht8 HcE]
  · isplitr; · iexact HR
    isplitr; · iexact HL
    isplitl [HO]; · iexact HO
    isplitl [Ht8]; · iexact Ht8
    unfold poised; iexact HcE
  iintro ⟨HO, HdE⟩
  iapply Hk
  unfold cellsPost
  isplitl [HO]; · iexact HO
  isplitl [HdB HdE HdS1 HdS2 HdS3 HdR1 HdR2 HdR3 HdXS HdXR HdPS HdPR HdAS HdAR HdYS HdYR]
  · isplitl [HdB HdE]
    · isplitl [HdB]; · iexact HdB
      iexact HdE
    isplitl [HdS1 HdS2 HdS3]
    · isplitl [HdS1]; · iexact HdS1
      isplitl [HdS2]; · iexact HdS2
      iexact HdS3
    isplitl [HdR1 HdR2 HdR3]
    · isplitl [HdR1]; · iexact HdR1
      isplitl [HdR2]; · iexact HdR2
      iexact HdR3
    isplitl [HdXS HdXR]
    · isplitl [HdXS]; · iexact HdXS
      iexact HdXR
    isplitl [HdPS HdPR]
    · isplitl [HdPS]; · iexact HdPS
      iexact HdPR
    isplitl [HdAS HdAR]
    · isplitl [HdAS]; · iexact HdAS
      iexact HdAR
    isplitl [HdYS]; · iexact HdYS
    iexact HdYR
  isplitl [HI0 HI1]
  · isplitl [HI0]; · iexact HI0
    iexact HI1
  ihave Hg0 := (share_rg0 c (rs m c)).2 $$ [Hq1 Hq2 Hq3 Hq4]
  · isplitl [Hq1 Hq2]
    · isplitl [Hq1]; · iexact Hq1
      iexact Hq2
    isplitl [Hq3]; · iexact Hq3
    iexact Hq4
  ihave Hpr := (owns_halves (c : Thread nD τ) prM fullShare (prc m c)).2 $$ [Hpr Hprl]
  · isplitl [Hprl]; · iexact Hprl
    iexact Hpr
  isplitr [Hx Hr Ho]
  · isplitl [Hg0 Hg1 Hg2 Hg3]
    · isplitl [Hg0]; · iapply (own_any c rg0 _) $$ Hg0
      isplitl [Hg1]; · iapply (own_any c rg1 _) $$ Hg1
      isplitl [Hg2]; · iapply (own_any c rg2 _) $$ Hg2
      iapply (own_any c rg3 _) $$ Hg3
    isplitl [Hxb]; · iapply (own_any c xbM _) $$ Hxb
    isplitl [Hps]; · iapply (own_any c psM _) $$ Hps
    isplitl [Hpr]; · iapply (own_any c prM _) $$ Hpr
    isplitl [Hpx]; · iapply (own_any c pxM _) $$ Hpx
    isplitl [Hsx]; · iapply (own_any c sxM _) $$ Hsx
    isplitl [Hpy]; · iapply (own_any c pyM _) $$ Hpy
    isplitl [Hw1]; · iapply (own_any c w1cM _) $$ Hw1
    iapply (own_any c w2cM _) $$ Hw2
  isplitl [Hx]; · iexact Hx
  isplitl [Hr]; · iexact Hr
  iexact Ho

end Cert.KernelIdealProof
-- ==== Proof.KernelIdeal.Bufs.lean ====
/-
# Buffers as the launch hands them over

Whole buffers, their slots, and the body's footing in terms of them.
-/
module

public import proofs.«01_k».proof.Proof.KernelIdeal.Body
public import Idealize.ShloMosaic.Lib.VecWindow

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

/-! ## A buffer cut into slots -/

omit [FloatOps F] [Named F] in
/-- A whole buffer, whatever it holds, falls into slots that make it up. -/
theorem slots_split {n : ℕ} (ℓ : Loc nD τ sig) (T : Fin n → Finset (Idx ℓ)) (hd : ∀ i j, i ≠ j → Disjoint (T i) (T j))
    (hc : Finset.univ.biUnion T = Finset.univ) :
    (iprop(∃ f : Buf (Elt F) ℓ, ℓ ↦{fullShare} f) : sProp 𝕄) ⊢ bigSep Finset.univ fun i => iprop(∃ f : Buf (Elt F) ℓ, ℓ ↦[T i]{fullShare} f) := by
  iintro ⟨%f, H⟩
  have one : ∀ i, (ℓ ↦[T i]{fullShare} f : sProp 𝕄) ⊢ iprop(∃ f : Buf (Elt F) ℓ, ℓ ↦[T i]{fullShare} f) := fun i => by
    iintro H; iexists f; iexact H
  have h : (ℓ ↦{fullShare} f : sProp 𝕄) ⊢ bigSep Finset.univ fun i => iprop(∃ f : Buf (Elt F) ℓ, ℓ ↦[T i]{fullShare} f) := by
    rw [← hc, pointsTo_biUnion Finset.univ T (fun i _ j _ h => hd i j h)]
    exact bigSep_mono fun i _ => one i
  iapply h $$ H

omit [FloatOps F] [Named F] in
/-- The slots, whatever they hold, are the whole buffer again. -/
theorem slots_join {n : ℕ} (ℓ : Loc nD τ sig) (T : Fin n → Finset (Idx ℓ)) (f₀ : Buf (Elt F) ℓ) (hd : ∀ i j, i ≠ j → Disjoint (T i) (T j))
    (hc : Finset.univ.biUnion T = Finset.univ) :
    (bigSep Finset.univ fun i => iprop(∃ f : Buf (Elt F) ℓ, ℓ ↦[T i]{fullShare} f) : sProp 𝕄) ⊢ iprop(∃ f : Buf (Elt F) ℓ, ℓ ↦{fullShare} f) := by
  haveI : Nonempty (Buf (Elt F) ℓ) := ⟨f₀⟩
  refine (BI.bigSep_exists_pi Finset.univ fun (i : Fin n) (f : Buf (Elt F) ℓ) => (ℓ ↦[T i]{fullShare} f : sProp 𝕄)).trans ?_
  iintro ⟨%fs, H⟩
  ihave H := (pointsTo_biUnion_join Finset.univ T fs f₀ (fun i _ j _ h => hd i j h)) $$ H
  icases H with ⟨%g, -, H⟩
  rw [hc]
  iexists g
  iexact H

/-- A whole buffer, whatever it holds. -/
def anyBuf (c : Dev nD) (b : Ref sig .tc) : sProp 𝕄 := iprop(∃ f : Buf (Elt F) ((c : Thread nD τ).loc b), ((c : Thread nD τ).loc b) ↦{fullShare} f)

omit [FloatOps F] [Named F] in
theorem anyBuf_eq (c : Dev nD) (b : Ref sig .tc) : anyBuf (F := F) c b = anyOf c (Memref.whole b) := by
  unfold anyBuf anyOf
  simp only [Memref.view_whole, View.set_whole]

/-- The four slots of the router's buffer, and the two the pieces go through. -/
def rgT (i : Fin 4) : Finset S4x1024x4.Idx :=
  (Rect.unit (s := S4x1024x4) ![i.val, 0, 0] S1x1024x4.size (by intro a; fin_cases a <;> simp [S4x1024x4, S1x1024x4] <;> omega)).set
def stT (i : Fin 2) : Finset S2x1024x1024.Idx :=
  (Rect.unit (s := S2x1024x1024) ![i.val, 0, 0] S1x1024x1024.size (by intro a; fin_cases a <;> simp [S2x1024x1024, S1x1024x1024] <;> omega)).set

theorem rgT_disjoint (i j : Fin 4) (h : i ≠ j) : Disjoint (rgT i) (rgT j) := by
  refine Rect.unit_disjoint 0 ?_
  have : i.val ≠ j.val := fun e => h (Fin.ext e)
  simp [S1x1024x4]; omega
theorem stT_disjoint (i j : Fin 2) (h : i ≠ j) : Disjoint (stT i) (stT j) := by
  refine Rect.unit_disjoint 0 ?_
  have : i.val ≠ j.val := fun e => h (Fin.ext e)
  simp [S1x1024x1024]; omega
theorem rgT_cover : Finset.univ.biUnion rgT = Finset.univ := by
  ext i
  simp only [Finset.mem_biUnion, Finset.mem_univ, true_and, iff_true]
  have h0 : (i 0).val < 4 := (i 0).isLt
  have h1 : (i 1).val < 1024 := (i 1).isLt
  have h2 : (i 2).val < 4 := (i 2).isLt
  refine ⟨⟨(i 0).val, h0⟩, Rect.mem_set_unit.2 fun a => ?_⟩
  fin_cases a <;> simp [S1x1024x4] <;> omega
theorem stT_cover : Finset.univ.biUnion stT = Finset.univ := by
  ext i
  simp only [Finset.mem_biUnion, Finset.mem_univ, true_and, iff_true]
  have h0 : (i 0).val < 2 := (i 0).isLt
  have h1 : (i 1).val < 1024 := (i 1).isLt
  have h2 : (i 2).val < 1024 := (i 2).isLt
  refine ⟨⟨(i 0).val, h0⟩, Rect.mem_set_unit.2 fun a => ?_⟩
  fin_cases a <;> simp [S1x1024x1024] <;> omega

abbrev slot0 := slot ![0, 0, 0] inb_S2x1024x1024_S1x1024x1024_0_0_0
abbrev slot1 := slot ![1, 0, 0] inb_S2x1024x1024_S1x1024x1024_1_0_0

theorem rg0_set : rg0.view.set = rgT 0 := by simp [rgT]
theorem rg1_set : rg1.view.set = rgT 1 := by simp [rgT]
theorem rg2_set : rg2.view.set = rgT 2 := by simp [rgT]
theorem rg3_set : rg3.view.set = rgT 3 := by simp [rgT]
theorem slot0_set : slot0.view.set = stT 0 := by simp [stT]
theorem slot1_set : slot1.view.set = stT 1 := by simp [stT]

/-- A slot of a buffer, whatever it holds. -/
def anyPart (c : Dev nD) (b : Ref sig .tc) (T : Finset (Idx ((c : Thread nD τ).loc b))) : sProp 𝕄 :=
  iprop(∃ f : Buf (Elt F) ((c : Thread nD τ).loc b), ((c : Thread nD τ).loc b) ↦[T]{fullShare} f)

omit [FloatOps F] [Named F] in
theorem anyOf_rg0 (c : Dev nD) : anyOf (F := F) c rg0 = anyPart c cc0_scratch0 (rgT 0) := by unfold anyOf anyPart; rw [rg0_set]
omit [FloatOps F] [Named F] in
theorem anyOf_rg1 (c : Dev nD) : anyOf (F := F) c rg1 = anyPart c cc0_scratch0 (rgT 1) := by unfold anyOf anyPart; rw [rg1_set]
omit [FloatOps F] [Named F] in
theorem anyOf_rg2 (c : Dev nD) : anyOf (F := F) c rg2 = anyPart c cc0_scratch0 (rgT 2) := by unfold anyOf anyPart; rw [rg2_set]
omit [FloatOps F] [Named F] in
theorem anyOf_rg3 (c : Dev nD) : anyOf (F := F) c rg3 = anyPart c cc0_scratch0 (rgT 3) := by unfold anyOf anyPart; rw [rg3_set]
omit [FloatOps F] [Named F] in
theorem anyOf_slot0 (c : Dev nD) : anyOf (F := F) c slot0 = anyPart c cc0_scratch7 (stT 0) := by unfold anyOf anyPart; rw [slot0_set]
omit [FloatOps F] [Named F] in
theorem anyOf_slot1 (c : Dev nD) : anyOf (F := F) c slot1 = anyPart c cc0_scratch7 (stT 1) := by unfold anyOf anyPart; rw [slot1_set]

omit [FloatOps F] [Named F] in
theorem rg_split (c : Dev nD) : anyBuf (F := F) c cc0_scratch0 ⊢ iprop(anyOf c rg0 ∗ anyOf c rg1 ∗ anyOf c rg2 ∗ anyOf c rg3) := by
  have h := slots_split (F := F) ((c : Thread nD τ).loc cc0_scratch0) rgT rgT_disjoint rgT_cover
  rw [bigSep_univ_eq_bigSepL [0, 1, 2, 3] (by decide) (by decide)] at h
  simp only [bigSepL_cons_cons, bigSepL_singleton] at h
  rw [anyOf_rg0, anyOf_rg1, anyOf_rg2, anyOf_rg3]
  exact h
omit [FloatOps F] [Named F] in
theorem rg_join_at (c : Dev nD) (f : Buf (Elt F) ((c : Thread nD τ).loc cc0_scratch0)) :
    iprop(anyPart (F := F) c cc0_scratch0 (rgT 0) ∗ anyPart c cc0_scratch0 (rgT 1) ∗ anyPart c cc0_scratch0 (rgT 2) ∗ anyPart c cc0_scratch0 (rgT 3))
      ⊢ anyBuf (F := F) c cc0_scratch0 := by
  have h := slots_join (F := F) ((c : Thread nD τ).loc cc0_scratch0) rgT f rgT_disjoint rgT_cover
  rw [bigSep_univ_eq_bigSepL [0, 1, 2, 3] (by decide) (by decide)] at h
  simp only [bigSepL_cons_cons, bigSepL_singleton] at h
  exact h
omit [FloatOps F] [Named F] in
theorem rg_join (c : Dev nD) : iprop(anyOf c rg0 ∗ anyOf c rg1 ∗ anyOf c rg2 ∗ anyOf c rg3) ⊢ anyBuf (F := F) c cc0_scratch0 := by
  rw [anyOf_rg0, anyOf_rg1, anyOf_rg2, anyOf_rg3]
  unfold anyPart
  iintro ⟨⟨%f, H0⟩, H1, H2, H3⟩
  iapply (rg_join_at c f)
  unfold anyPart
  isplitl [H0]; · iexists f; iexact H0
  isplitl [H1]; · iexact H1
  isplitl [H2]; · iexact H2
  iexact H3
omit [FloatOps F] [Named F] in
theorem st_split (c : Dev nD) : anyBuf (F := F) c cc0_scratch7 ⊢ iprop(anyOf c slot0 ∗ anyOf c slot1) := by
  have h := slots_split (F := F) ((c : Thread nD τ).loc cc0_scratch7) stT stT_disjoint stT_cover
  rw [bigSep_univ_eq_bigSepL [0, 1] (by decide) (by decide)] at h
  simp only [bigSepL_cons_cons, bigSepL_singleton] at h
  rw [anyOf_slot0, anyOf_slot1]
  exact h
omit [FloatOps F] [Named F] in
theorem st_join_at (c : Dev nD) (f : Buf (Elt F) ((c : Thread nD τ).loc cc0_scratch7)) :
    iprop(anyPart (F := F) c cc0_scratch7 (stT 0) ∗ anyPart c cc0_scratch7 (stT 1)) ⊢ anyBuf (F := F) c cc0_scratch7 := by
  have h := slots_join (F := F) ((c : Thread nD τ).loc cc0_scratch7) stT f stT_disjoint stT_cover
  rw [bigSep_univ_eq_bigSepL [0, 1] (by decide) (by decide)] at h
  simp only [bigSepL_cons_cons, bigSepL_singleton] at h
  exact h
omit [FloatOps F] [Named F] in
theorem st_join (c : Dev nD) : iprop(anyOf c slot0 ∗ anyOf c slot1) ⊢ anyBuf (F := F) c cc0_scratch7 := by
  rw [anyOf_slot0, anyOf_slot1]
  unfold anyPart
  iintro ⟨⟨%f, H0⟩, H1⟩
  iapply (st_join_at c f)
  unfold anyPart
  isplitl [H0]; · iexists f; iexact H0
  iexact H1

/-- A whole buffer holding known words. -/
def isBuf (c : Dev nD) (b : Ref sig .tc) (q : PosShare TreeShare) (X : Buf (Elt F) ((c : Thread nD τ).loc b)) : sProp 𝕄 :=
  iprop(∃ f : Buf (Elt F) ((c : Thread nD τ).loc b), ⌜f = X⌝ ∗ ((c : Thread nD τ).loc b) ↦{q} f)

omit [FloatOps F] [Named F] in
theorem own_xM (c : Dev nD) (X) : own (F := F) c xM fullShare X = isBuf c cc0_stg0_0 fullShare X := by
  unfold own isBuf; simp only [owns_whole_eq]
omit [FloatOps F] [Named F] in
theorem own_rM (c : Dev nD) (X) : own (F := F) c rM fullShare X = isBuf c cc0_stg1_0 fullShare X := by
  unfold own isBuf; simp only [owns_whole_eq]
omit [FloatOps F] [Named F] in
theorem own_oM (c : Dev nD) (X) : own (F := F) c oM fullShare X = isBuf c cc0_stg2_0 fullShare X := by
  unfold own isBuf; simp only [owns_whole_eq]
omit [FloatOps F] [Named F] in
theorem own_w1M (c : Dev nD) (X) : own (F := F) c w1M fullShare X = isBuf c main_arg2 fullShare X := by
  unfold own isBuf; simp only [owns_whole_eq]
omit [FloatOps F] [Named F] in
theorem own_w2M (c : Dev nD) (X) : own (F := F) c w2M fullShare X = isBuf c main_arg3 fullShare X := by
  unfold own isBuf; simp only [owns_whole_eq]

/-- The scratch buffers, whatever they hold. -/
def rests (c : Dev nD) : sProp 𝕄 :=
  iprop(anyBuf c cc0_scratch0 ∗ anyBuf c cc0_scratch1 ∗ anyBuf c cc0_scratch2 ∗ anyBuf c cc0_scratch3 ∗ anyBuf c cc0_scratch4 ∗ anyBuf c cc0_scratch5
    ∗ anyBuf c cc0_scratch6 ∗ anyBuf c cc0_scratch7 ∗ anyBuf c cc0_scratch8 ∗ anyBuf c cc0_scratch9)

omit [FloatOps F] [Named F] in
theorem scopedRest_eq (c : Dev nD) :
    (Pipeline.scopedRest (Ix := Unit) (Name := ℕ) (U := UU) (Lvl := ℕ) (Val := Elt F) spec0 c : sProp 𝕄) = rests c := scopedRest0_eq c

/-- The two weights' buffers as launched, and the two semaphores of the pieces at zero. -/
def held (c : Dev nD) : sProp 𝕄 :=
  iprop(isBuf c main_arg2 fullShare (w1 m c) ∗ isBuf c main_arg3 fullShare (w2 m c)
    ∗ semVal ((c : Thread nD τ), SemLoc.dma (wdS ![0] inb_S2_S1_0)) 0 ∗ semVal ((c : Thread nD τ), SemLoc.dma (wdS ![1] inb_S2_S1_1)) 0)

theorem enter (c : Dev nD) : iprop(rests (F := F) c ∗ held m c) ⊢ iprop(scratch c ∗ idles m c) := by
  unfold rests held scratch idles idle
  rw [← own_w1M, ← own_w2M]
  iintro ⟨⟨H0, H1, H2, H3, H4, H5, H6, H7, H8, H9⟩, Ha, Hb, Hs0, Hs1⟩
  ihave H0 := (rg_split c) $$ H0
  ihave H7 := (st_split c) $$ H7
  icases H7 with ⟨H70, H71⟩
  ihave Ha := (owns_halves _ _ _ (w1 m c)).1 $$ Ha
  ihave Hb := (owns_halves _ _ _ (w2 m c)).1 $$ Hb
  icases Ha with ⟨Ha0, Ha1⟩
  icases Hb with ⟨Hb0, Hb1⟩
  simp only [anyBuf_eq]
  isplitl [H0 H1 H2 H3 H4 H5 H6 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    iexact H9
  isplitl [Ha0 Hb0 H70 Hs0]
  · isplitl [Ha0]; · iexact Ha0
    isplitl [Hb0]; · iexact Hb0
    isplitl [H70]; · iexact H70
    iexact Hs0
  isplitl [Ha1]; · iexact Ha1
  isplitl [Hb1]; · iexact Hb1
  isplitl [H71]; · iexact H71
  iexact Hs1

theorem leave (c : Dev nD) : iprop(scratch c ∗ idles m c) ⊢ iprop(rests (F := F) c ∗ held m c) := by
  unfold rests held scratch idles idle
  rw [← own_w1M, ← own_w2M]
  iintro ⟨⟨H0, H1, H2, H3, H4, H5, H6, H8, H9⟩, ⟨Ha0, Hb0, H70, Hs0⟩, Ha1, Hb1, H71, Hs1⟩
  ihave H0 := (rg_join c) $$ H0
  ihave H7 := (st_join c) $$ [H70 H71]
  · isplitl [H70]; · iexact H70
    iexact H71
  ihave Ha := (owns_halves _ _ _ (w1 m c)).2 $$ [Ha0 Ha1]
  · isplitl [Ha0]; · iexact Ha0
    iexact Ha1
  ihave Hb := (owns_halves _ _ _ (w2 m c)).2 $$ [Hb0 Hb1]
  · isplitl [Hb0]; · iexact Hb0
    iexact Hb1
  isplitl [H0 H1 H2 H3 H4 H5 H6 H7 H8 H9]
  · isplitl [H0]; · iexact H0
    simp only [anyBuf_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Ha]; · iexact Ha
  isplitl [Hb]; · iexact Hb
  isplitl [Hs0]; · iexact Hs0
  iexact Hs1

end Cert.KernelIdealProof
-- ==== Proof.KernelIdeal.Ghost.lean ====
/-
# The launch of the protocol

The semaphores handed over at zero, the cells made from them and shared among the devices, the tokens and credits.
-/
module

public import Mathlib.Tactic.Ring
public import proofs.«01_k».proof.Proof.KernelIdeal.Bufs
public import proofs.«01_k».proof.Proof.Gen.KernelIdeal.Launch
public import Idealize.ShloMosaic.Lib.Pipeline.Launch
public import Idealize.ShloMosaic.Lib.Pipeline.Kit

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (κ : Dev nD × K → ℕ)

/-! ## The semaphores -/

theorem inb_first : ∀ a, (![0] : Fin 1 → ℕ) a + S1.size a ≤ S4.size a := by decide

/-- The semaphores of the kernel's own: the protocol's, but for the entry barrier, then those of the pieces, then the
    two no transfer uses. -/
def osem : Fin 19 → SemLoc sig
  | 0 => semOf .rgR1 | 1 => semOf .rgR2 | 2 => semOf .rgR3 | 3 => semOf .rgS1 | 4 => semOf .rgS2 | 5 => semOf .rgS3
  | 6 => semOf .xpR | 7 => semOf .xpS | 8 => semOf .ppR | 9 => semOf .ppS | 10 => semOf .axR | 11 => semOf .axS | 12 => semOf .ayR | 13 => semOf .ayS
  | 14 => semOf .ext | 15 => .dma (wdS ![0] inb_S2_S1_0) | 16 => .dma (wdS ![1] inb_S2_S1_1)
  | 17 => .dma (rgSS ![0] inb_first) | _ => .dma (rgRS ![0] inb_first)

theorem ownSemFacts : Pipeline.OwnSemFacts cfg0.spec osem := by decide

/-- The semaphores outside the protocol. -/
def spare (c : Dev nD) : sProp 𝕄 :=
  iprop(semVal ((c : Thread nD τ), SemLoc.dma (rgSS ![0] inb_first)) 0 ∗ semVal ((c : Thread nD τ), SemLoc.dma (rgRS ![0] inb_first)) 0)
def extra (c : Dev nD) : sProp 𝕄 :=
  iprop(semVal ((c : Thread nD τ), SemLoc.dma (wdS ![0] inb_S2_S1_0)) 0 ∗ semVal ((c : Thread nD τ), SemLoc.dma (wdS ![1] inb_S2_S1_1)) 0 ∗ spare c)

abbrev ownSems (c : Dev nD) : sProp 𝕄 := Pipeline.ownSems0 (Ix := Unit) (Name := ℕ) (U := UU) (Lvl := ℕ) (Val := Elt F) (τ := τ) osem c

/-- The counter of a protocol cell, at zero. -/
def zero (c : Dev nD) (k : K) : sProp 𝕄 := semVal (kc (c, k)) 0

/-- All the counters of the protocol, at zero, one by one. -/
def zeros (c : Dev nD) : sProp 𝕄 :=
  iprop(zero c .rgR1 ∗ zero c .rgR2 ∗ zero c .rgR3 ∗ zero c .rgS1 ∗ zero c .rgS2 ∗ zero c .rgS3 ∗ zero c .xpR ∗ zero c .xpS ∗ zero c .ppR ∗ zero c .ppS
    ∗ zero c .axR ∗ zero c .axS ∗ zero c .ayR ∗ zero c .ayS ∗ zero c .ext)

omit [FloatOps F] [Named F] in
theorem ownSems_eq (c : Dev nD) : ownSems (F := F) c = iprop(zero c .rgR1 ∗ zero c .rgR2 ∗ zero c .rgR3 ∗ zero c .rgS1 ∗ zero c .rgS2 ∗ zero c .rgS3 ∗ zero c .xpR ∗ zero c .xpS ∗ zero c .ppR ∗ zero c .ppS
    ∗ zero c .axR ∗ zero c .axS ∗ zero c .ayR ∗ zero c .ayS ∗ zero c .ext ∗ extra c) := by
  unfold ownSems
  rw [Pipeline.ownSems0_eq_of_list c osem [0, 1, 2, 3, 4, 5, 6, 7, 8, 9, 10, 11, 12, 13, 14, 15, 16, 17, 18] (by decide) (by decide)]
  rfl
omit [FloatOps F] [Named F] in
theorem unscoped_eq (c : Dev nD) : (unscopedSems0 c : sProp 𝕄) = zero c .bar := by
  unfold unscopedSems0; rw [bigSep_eq_bigSepL_of_eq [SemLoc.reg barS] (by decide) (by decide)]; rfl

omit [FloatOps F] [Named F] in
theorem bigSep_kinds (Φ : K → sProp 𝕄) : bigSep Finset.univ Φ = iprop(Φ .bar ∗ Φ .rgR1 ∗ Φ .rgR2 ∗ Φ .rgR3 ∗ Φ .rgS1 ∗ Φ .rgS2 ∗ Φ .rgS3 ∗ Φ .xpR ∗ Φ .xpS
    ∗ Φ .ppR ∗ Φ .ppS ∗ Φ .axR ∗ Φ .axS ∗ Φ .ayR ∗ Φ .ayS ∗ Φ .ext) := by
  rw [bigSep_univ_eq_bigSepL kinds (by decide) (by decide)]; rfl

omit [FloatOps F] [Named F] in
theorem sems_in (c : Dev nD) : iprop(ownSems (F := F) c ∗ unscopedSems0 c) ⊢ iprop((bigSep Finset.univ fun k => zero c k) ∗ extra c) := by
  rw [ownSems_eq, unscoped_eq, bigSep_kinds]
  iintro ⟨⟨H1, H2, H3, H4, H5, H6, H7, H8, H9, H10, H11, H12, H13, H14, H15, HX⟩, HB⟩
  isplitr [HX]; swap; · iexact HX
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- After the waits every counter of the protocol is at zero again. -/
theorem close_all (c : Dev nD) : iprop(records m κ ∗ cellsPost m c ∗ extra c) ⊢ |={Set.univ}=> iprop(ownSems (F := F) c ∗ unscopedSems0 c) := by
  rw [ownSems_eq, unscoped_eq]
  unfold cellsPost
  iintro ⟨#HR, ⟨⟨Hb, He⟩, ⟨H4, H5, H6⟩, ⟨H1, H2, H3⟩, ⟨H8, H7⟩, ⟨H10, H9⟩, ⟨H12, H11⟩, H14, H13⟩, HX⟩
  have cl : ∀ k, iprop(records m κ ∗ done m c k) ⊢ |={Set.univ}=> (zero (F := F) c k) := fun k => done_close m κ c k
  imod (cl .bar) $$ [Hb] with Hb
  · isplitr; · iexact HR
    iexact Hb
  imod (cl .ext) $$ [He] with He
  · isplitr; · iexact HR
    iexact He
  imod (cl .rgS1) $$ [H4] with H4
  · isplitr; · iexact HR
    iexact H4
  imod (cl .rgS2) $$ [H5] with H5
  · isplitr; · iexact HR
    iexact H5
  imod (cl .rgS3) $$ [H6] with H6
  · isplitr; · iexact HR
    iexact H6
  imod (cl .rgR1) $$ [H1] with H1
  · isplitr; · iexact HR
    iexact H1
  imod (cl .rgR2) $$ [H2] with H2
  · isplitr; · iexact HR
    iexact H2
  imod (cl .rgR3) $$ [H3] with H3
  · isplitr; · iexact HR
    iexact H3
  imod (cl .xpS) $$ [H8] with H8
  · isplitr; · iexact HR
    iexact H8
  imod (cl .xpR) $$ [H7] with H7
  · isplitr; · iexact HR
    iexact H7
  imod (cl .ppS) $$ [H10] with H10
  · isplitr; · iexact HR
    iexact H10
  imod (cl .ppR) $$ [H9] with H9
  · isplitr; · iexact HR
    iexact H9
  imod (cl .axS) $$ [H12] with H12
  · isplitr; · iexact HR
    iexact H12
  imod (cl .axR) $$ [H11] with H11
  · isplitr; · iexact HR
    iexact H11
  imod (cl .ayS) $$ [H14] with H14
  · isplitr; · iexact HR
    iexact H14
  imod (cl .ayR) $$ [H13] with H13
  · isplitr; · iexact HR
    iexact H13
  imodintro
  isplitr [Hb]; swap; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [He]; · iexact He
  iexact HX

/-! ## The launch's ghost state -/

theorem kc_injective : Function.Injective (kc : Dev nD × K → GSem nD τ sig) := by
  rintro ⟨c, k⟩ ⟨c', k'⟩ h
  have h1 : c = c' := by have := congrArg (fun g : GSem nD τ sig => g.1.1) h; exact this
  have h2 : semOf k = semOf k' := congrArg Prod.snd h
  have h3 : some k = some k' := by rw [← kindOf_semOf k, ← kindOf_semOf k', h2]
  rw [h1, Option.some.inj h3]

def ringCells : Finset (GSem nD τ sig) := Finset.univ.map ⟨kc, kc_injective⟩

/-- Who pays a duty, and as which of its payments. -/
def unent : (Dev nD × K) × Fin 5 → Dev nD × Fin 24
  | ((e, .bar), 0) => (zp 3 e, 0) | ((e, .bar), 1) => (zp 2 e, 1) | ((e, .bar), 2) => (zp 1 e, 2) | ((e, .bar), 3) => (xp e, 3) | ((e, .bar), _) => (yp e, 4)
  | ((e, .rgR3), _) => (zp 3 e, 5) | ((e, .rgR2), _) => (zp 2 e, 6) | ((e, .rgR1), _) => (zp 1 e, 7)
  | ((e, .xpR), _) => (fwd e, 8) | ((e, .ppR), _) => (bwd e, 9) | ((e, .axR), _) => (xp e, 10) | ((e, .ayR), _) => (yp e, 11)
  | ((e, .ext), 0) => (zp 3 e, 12) | ((e, .ext), 1) => (zp 2 e, 13) | ((e, .ext), 2) => (zp 1 e, 14) | ((e, .ext), 3) => (xp e, 15) | ((e, .ext), _) => (yp e, 16)
  | ((e, .rgS1), _) => (e, 17) | ((e, .rgS2), _) => (e, 18) | ((e, .rgS3), _) => (e, 19)
  | ((e, .xpS), _) => (e, 20) | ((e, .ppS), _) => (e, 21) | ((e, .axS), _) => (e, 22) | ((e, .ayS), _) => (e, 23)

theorem unent_ent : ∀ p : Dev nD, ∀ j : Fin 24, unent (ent p j) = (p, j) := by decide +kernel

abbrev tokOf (x : Dev nD × Fin 24) : GSem nD τ sig × ℕ × Fin 5 := (kc (ent x.1 x.2).1, 0, (ent x.1 x.2).2)
theorem tokOf_injective : Function.Injective tokOf := by
  rintro ⟨p, j⟩ ⟨p', j'⟩ h
  have h1 : (ent p j).1 = (ent p' j').1 := kc_injective (congrArg Prod.fst h)
  have h2 : (ent p j).2 = (ent p' j').2 := congrArg (fun x : GSem nD τ sig × ℕ × Fin 5 => x.2.2) h
  rw [← unent_ent p j, ← unent_ent p' j', Prod.ext h1 h2]
def ringToks : Finset (GSem nD τ sig × ℕ × Fin 5) := Finset.univ.map ⟨tokOf, tokOf_injective⟩

def u₀ : UU :=
  (initOf (Pipeline.cells cfgs cellOf_inj) (Pipeline.launchToks cfgs cellOf_inj), (initOf ringCells ringToks, 1))

/-- The tokens device `c` pays with, as one family. -/
def toks (c : Dev nD) : sProp 𝕄 := bigSep Finset.univ fun j : Fin 24 => tok c j
def ats (c : Dev nD) : sProp 𝕄 := bigSep Finset.univ fun k : K => at0 c k
def invs (c : Dev nD) : sProp 𝕄 := bigSep Finset.univ fun k : K => iprop(∃ κ : ℕ, cellInv ER (rd m) κ (kc (c, k)))
def reacheds (c : Dev nD) : sProp 𝕄 := bigSep Finset.univ fun k : K => reached ER (kc (c, k)) 0

/-- What the launch deals device `c`. -/
def G (c : Dev nD) : sProp 𝕄 :=
  iprop((bigSep Finset.univ fun k : K => roundState ER (rd m) (kc (c, k)) 0) ∗ ats c ∗ reacheds c ∗ toks c)

/-- What the device has once the cells are shared. -/
def G' (c : Dev nD) : sProp 𝕄 := iprop((∃ κ, records m κ) ∗ ats c ∗ toks c ∗ extra c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : K => Φ (kc (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · unfold ats at0; iexact Hat'
  isplitl [Hr']; · unfold reacheds; iexact Hr'
  iexact Htok'

theorem core_alloc (c : Dev nD) :
    iprop(ownSems (F := F) c ∗ unscopedSems0 c ∗ G m c) ⊢ |={Set.univ}=> iprop(invs m c ∗ reacheds c ∗ ats c ∗ toks c ∗ extra c) := by
  unfold G
  iintro ⟨Hos, Hus, Hst, Hat, Hre, Htok⟩
  ihave Hv := (sems_in (F := F) c) $$ [Hos Hus]
  · isplitl [Hos]; · iexact Hos
    iexact Hus
  icases Hv with ⟨Hv, Hex⟩
  imod (show iprop((bigSep Finset.univ fun k : K => zero c k) ∗ bigSep Finset.univ fun k : K => roundState ER (rd m) (kc (c, k)) 0)
      ⊢ (|={Set.univ}=> invs m c : sProp 𝕄) from by
        rw [← bigSep_sep']
        exact (bigSep_mono fun k _ => (Rounds.body_intro ER (rd m) (kc (c, k))).trans inv_alloc).trans (bigSep_fupd _ _)) $$ [Hv Hst] with Hinv
  · isplitl [Hv]; · iexact Hv
    iexact Hst
  imodintro
  isplitl [Hinv]; · iexact Hinv
  isplitl [Hre]; · iexact Hre
  isplitl [Hat]; · iexact Hat
  isplitl [Htok]; · iexact Htok
  iexact Hex

omit [FloatOps F] [Named F] in
/-- What all devices know, given to each. -/
theorem to_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup : (bigSep Finset.univ fun c : Dev nD => iprop(invs m c ∗ reacheds c ∗ ats c ∗ toks c ∗ extra c) : sProp 𝕄) ⊢ bigSep Finset.univ (G' m) := by
  rw [bigSep_sep', bigSep_sep']
  iintro ⟨HI, HRe, Hrest⟩
  ihave HI := (show (bigSep Finset.univ fun c : Dev nD => invs m c : sProp 𝕄)
      ⊢ iprop(∃ κ : Dev nD × K → ℕ, bigSep Finset.univ fun e : Dev nD × K => cellInv ER (rd m) (κ e) (kc e)) from by
    unfold invs
    rw [← bigSep_univ_prod (fun e : Dev nD × K => iprop(∃ κ : ℕ, cellInv ER (rd m) κ (kc e)))]
    exact BI.bigSep_exists_pi Finset.univ (fun (e : Dev nD × K) (κ : ℕ) => (cellInv ER (rd m) κ (kc e) : sProp 𝕄))) $$ HI
  icases HI with ⟨%κ, HI⟩
  ihave HRe := (show (bigSep Finset.univ fun c : Dev nD => reacheds c : sProp 𝕄) ⊢ bigSep Finset.univ fun e : Dev nD × K => reached ER (kc e) 0 from by
    unfold reacheds
    rw [← bigSep_univ_prod (fun e : Dev nD × K => (reached ER (kc e) 0 : sProp 𝕄))]) $$ HRe
  ihave HR := (show iprop((bigSep Finset.univ fun e : Dev nD × K => cellInv ER (rd m) (κ e) (kc e)) ∗ bigSep Finset.univ fun e : Dev nD × K => reached ER (kc e) 0)
      ⊢ records m κ from by unfold records; rw [bigSep_sep']) $$ [HI HRe]
  · isplitl [HI]; · iexact HI
    iexact HRe
  iapply (to_each (R := records m κ) (Φ := fun c => iprop(ats c ∗ toks c ∗ extra c)) (Ψ := G' m) fun c => by
    unfold G'
    iintro ⟨HR, H⟩
    isplitl [HR]; · iexists κ; iexact HR
    iexact H)
  isplitl [HR]; · iexact HR
  iexact Hrest

/-- The cells shared, all devices' at once. -/
theorem glob : (bigSep Finset.univ fun c => iprop(ownSems (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit at launch -/

theorem tl_count (l : List (Dev nD × K)) (e : Dev nD × K) : tl l (kc e) () = l.count e * amt e.2 := by
  induction l with
  | nil => rw [List.count_nil, Nat.zero_mul]; rfl
  | cons a l ih =>
    show (tl l + tallyAt (kc a) () (amt a.2)) (kc e) () = _
    rw [Pi.add_apply, Finsupp.add_apply, ih, tallyAt_apply]
    by_cases h : a = e
    · subst h; rw [if_pos ⟨rfl, rfl⟩, List.count_cons_self]; ring
    · rw [if_neg (fun h' => h (kc_injective h'.1).symm), List.count_cons_of_ne h, Nat.add_zero]

/-- The kinds of cell other devices credit. -/
def paid : List K := [.bar, .rgR1, .rgR2, .rgR3, .xpR, .ppR, .axR, .ayR, .ext]

theorem count_paid : ∀ c : Dev nD, ∀ k ∈ paid, (Finset.univ.sum fun d : Dev nD => (barL d).count (c, k)) = (dut c k).card := by decide +kernel

theorem launch_credit (c : Dev nD) (k : K) (hk : k ∈ paid) :
    tallyOn (kc (c, k)) (launchCredit (Pipeline.owing O₀) 0 (kc (c, k))) = (tallyAt (kc (c, k)) () ((dut c k).card * amt k) : CellTallies nD τ sig Unit) := by
  unfold tallyAt; refine congrArg _ (Finsupp.ext fun u => ?_); cases u
  rw [Pipeline.launchCredit_owing, Finsupp.single_eq_same, Finset.sum_congr rfl fun d _ => show O₀ d (kc (c, k)) () = (barL d).count (c, k) * amt k from tl_count _ _,
    ← Finset.sum_mul, count_paid c k hk]

theorem semOf_injective : Function.Injective semOf := fun k k' h => Option.some.inj (by rw [← kindOf_semOf k, ← kindOf_semOf k', h])

/-- The credit of a device's cell for all the payments other devices make to it. -/
def credOf (c : Dev nD) (k : K) : sProp 𝕄 := cred (tallyAt (kc (c, k)) () ((dut c k).card * amt k))

omit [FloatOps F] [Named F] in
theorem credOf_launch (c : Dev nD) (k : K) (hk : k ∈ paid.toFinset) :
    cred (tallyOn (kc (c, k)) (launchCredit (Pipeline.owing O₀) 0 (kc (c, k)))) ⊢ credOf (F := F) c k := by
  unfold credOf
  rw [launch_credit c k (List.mem_toFinset.mp hk)]

/-- The semaphores of those kinds. -/
def paidSems : Finset (SemLoc sig) := paid.toFinset.map ⟨semOf, semOf_injective⟩

omit [FloatOps F] [Named F] in
theorem over_paid (Φ : SemLoc sig → sProp 𝕄) : bigSep Finset.univ Φ ⊢ bigSep paid.toFinset fun k => Φ (semOf k) := by
  have h : bigSep Finset.univ Φ ⊢ bigSep paidSems Φ := bigSep_subset fun x _ => Finset.mem_univ x
  refine h.trans (Entails.of_eq ?_)
  unfold paidSems
  exact bigSep_map (⟨semOf, semOf_injective⟩ : K ↪ SemLoc sig)

omit [FloatOps F] [Named F] in
theorem creds (c : Dev nD) : (Pipeline.launchCred O₀ c : sProp 𝕄) ⊢ bigSep paid.toFinset fun k => credOf c k := by
  unfold Pipeline.launchCred
  exact (over_paid _).trans (bigSep_mono fun k hk => credOf_launch c k hk)

omit [FloatOps F] [Named F] in
theorem bigSep_paid (Φ : K → sProp 𝕄) : bigSep paid.toFinset Φ = iprop(Φ .bar ∗ Φ .rgR1 ∗ Φ .rgR2 ∗ Φ .rgR3 ∗ Φ .xpR ∗ Φ .ppR ∗ Φ .axR ∗ Φ .ayR ∗ Φ .ext) := by
  rw [bigSep_eq_bigSepL_of_eq paid (by decide) (by decide)]; rfl

omit [FloatOps F] [Named F] in
/-- Positions and credits, cell by cell. -/
theorem cells_pre (c : Dev nD) : iprop((Pipeline.launchCred O₀ c : sProp 𝕄) ∗ ats c) ⊢ cellsPre c := by
  refine (sep_mono_left (creds (F := F) c)).trans ?_
  unfold ats
  rw [bigSep_kinds, bigSep_paid]
  unfold cellsPre poised credOf
  iintro ⟨⟨C1, C2, C3, C4, C5, C6, C7, C8, C9⟩, Hb, HR1, HR2, HR3, HS1, HS2, HS3, HxR, HxS, HpR, HpS, HaR, HaS, HyR, HyS, He⟩
  isplitl [C1 C9 Hb He]
  · isplitl [C1 Hb]
    · isplitl [C1]; · iexact C1
      iexact Hb
    isplitl [C9]; · iexact C9
    iexact He
  isplitl [HS1 HS2 HS3]
  · isplitl [HS1]; · iexact HS1
    isplitl [HS2]; · iexact HS2
    iexact HS3
  isplitl [C2 C3 C4 HR1 HR2 HR3]
  · isplitl [C2 HR1]
    · isplitl [C2]; · iexact C2
      iexact HR1
    isplitl [C3 HR2]
    · isplitl [C3]; · iexact C3
      iexact HR2
    isplitl [C4]; · iexact C4
    iexact HR3
  isplitl [HxS C5 HxR]
  · isplitl [HxS]; · iexact HxS
    isplitl [C5]; · iexact C5
    iexact HxR
  isplitl [HpS C6 HpR]
  · isplitl [HpS]; · iexact HpS
    isplitl [C6]; · iexact C6
    iexact HpR
  isplitl [HaS C7 HaR]
  · isplitl [HaS]; · iexact HaS
    isplitl [C7]; · iexact C7
    iexact HaR
  isplitl [HyS]; · iexact HyS
  isplitl [C8]; · iexact C8
  iexact HyR

omit [FloatOps F] [Named F] in
/-- The tokens, in the order the body pays. -/
theorem tokens_of (c : Dev nD) : toks (F := F) c ⊢ tokens c := by
  have h : toks (F := F) c ⊢ iprop(dt (zp 1 c, .bar) 0 ∗ dt (zp 2 c, .bar) 1 ∗ dt (zp 3 c, .bar) 2 ∗ dt (xp c, .bar) 3 ∗ dt (yp c, .bar) 4
      ∗ dt (zp 1 c, .rgR3) 0 ∗ dt (zp 2 c, .rgR2) 0 ∗ dt (zp 3 c, .rgR1) 0 ∗ dt (bwd c, .xpR) 0 ∗ dt (fwd c, .ppR) 0 ∗ dt (xp c, .axR) 0 ∗ dt (yp c, .ayR) 0
      ∗ dt (zp 1 c, .ext) 0 ∗ dt (zp 2 c, .ext) 1 ∗ dt (zp 3 c, .ext) 2 ∗ dt (xp c, .ext) 3 ∗ dt (yp c, .ext) 4
      ∗ dt (c, .rgS1) 0 ∗ dt (c, .rgS2) 0 ∗ dt (c, .rgS3) 0 ∗ dt (c, .xpS) 0 ∗ dt (c, .ppS) 0 ∗ dt (c, .axS) 0 ∗ dt (c, .ayS) 0) := by
    unfold toks
    rw [bigSep_univ_eq_bigSepL [0, 1, 2, 3, 4, 5, 6, 7, 8, 9, 10, 11, 12, 13, 14, 15, 16, 17, 18, 19, 20, 21, 22, 23] (by decide) (by decide)]
    exact Entails.refl _
  refine h.trans ?_
  unfold tokens
  iintro ⟨T0, T1, T2, T3, T4, T5, T6, T7, T8, T9, T10, T11, T12, T13, T14, T15, T16, T17, T18, T19, T20, T21, T22, T23⟩
  isplitl [T0]; · iexact T0
  isplitl [T1 T2 T3 T4]
  · isplitl [T1]; · iexact T1
    isplitl [T2]; · iexact T2
    isplitl [T3]; · iexact T3
    iexact T4
  isplitl [T17 T5 T18 T6]
  · isplitl [T17]; · iexact T17
    isplitl [T5]; · iexact T5
    isplitl [T18]; · iexact T18
    iexact T6
  isplitl [T19 T7 T20 T8]
  · isplitl [T19]; · iexact T19
    isplitl [T7]; · iexact T7
    isplitl [T20]; · iexact T20
    iexact T8
  isplitl [T21 T9]
  · isplitl [T21]; · iexact T21
    iexact T9
  isplitl [T22 T10 T23 T11]
  · isplitl [T22]; · iexact T22
    isplitl [T10]; · iexact T10
    isplitl [T23]; · iexact T23
    iexact T11
  isplitl [T12]; · iexact T12
  isplitl [T13]; · iexact T13
  isplitl [T14]; · iexact T14
  isplitl [T15]; · iexact T15
  iexact T16

end Cert.KernelIdealProof
-- ==== Proof.KernelIdeal.Run.lean ====
/-
# The run

The region's proof data, its body obligation, and the run of the program from any memory.
-/
module

public import proofs.«01_k».proof.Proof.KernelIdeal.Ghost
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

set_option synthInstance.maxSize 4096

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## What the region is entered and left with -/

/-- What device `c`'s body starts from, beside the scratch buffers. -/
def start (c : Dev nD) : sProp 𝕄 :=
  iprop((∃ κ, records m κ) ∗ levAts L lv ∗ tokens c ∗ cellsPre c ∗ held m c ∗ spare c)

def Φ₀ (c : Dev nD) : sProp 𝕄 := iprop(start m c ∗ rests c)

/-- What the run leaves beside the windows: the weights as launched, every counter at zero. -/
def left (c : Dev nD) : sProp 𝕄 := iprop(unscopedSems0 c ∗ isBuf c main_arg2 fullShare (w1 m c) ∗ isBuf c main_arg3 fullShare (w2 m c))
def Φ₁ (c : Dev nD) : sProp 𝕄 := iprop(left m c ∗ ownSems c ∗ rests c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => rs m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem before_x (c : Dev nD) (d) : (dats m 0 c).before (0 : Fin 3) t0_0 d = xs m c := by
  unfold Dat.before; rw [if_pos (fetch0_0 t0_0)]; rfl
theorem before_r (c : Dev nD) (d) : (dats m 0 c).before (1 : Fin 3) t0_0 d = rs m c := by
  unfold Dat.before; rw [if_pos (fetch0_1 t0_0)]; rfl

omit [FloatOps F] [Named F] in
theorem isBuf_any (c : Dev nD) (b : Ref sig .tc) (X) : isBuf (F := F) c b fullShare X ⊢ anyBuf c b := by
  unfold isBuf anyBuf
  iintro ⟨%f, -, H⟩
  iexists f
  iexact H

/-! ## The body -/

def bodyPre (c : Dev nD) : sProp 𝕄 :=
  iprop(Φ₀ m c ∗ (dats m 0 c).owesAt () t0_0.castSucc
    ∗ (∃ d, isBuf c cc0_stg0_0 fullShare ((dats m 0 c).before (0 : Fin 3) t0_0 d))
    ∗ (∃ d, isBuf c cc0_stg1_0 fullShare ((dats m 0 c).before (1 : Fin 3) t0_0 d))
    ∗ (∃ d, isBuf c cc0_stg2_0 fullShare ((dats m 0 c).before (2 : Fin 3) t0_0 d)))

def bodyPost (c : Dev nD) : sProp 𝕄 :=
  iprop(Φ₁ m c ∗ (dats m 0 c).owesAt () t0_0.succ
    ∗ isBuf c cc0_stg0_0 fullShare (xs m c) ∗ isBuf c cc0_stg1_0 fullShare (rs m c) ∗ isBuf c cc0_stg2_0 fullShare (outAt m c))

/-- The body, from what the region holds before its one point to what it holds after, counters closed. -/
theorem body_whole (c : Dev nD) : bodyPre m c ⊢ wpb (F := F) c (α := PUnit) (p24 F >>= fun a => semSignalWord (⟨k0_dev17 a.1, k0_dev17_lt a.1⟩ : Dev nD) extS 1#32 >>= fun _ =>
      semWaitWord extS 5#32 >>= fun _ => pure ⟨⟩) (fun _ => iprop(|={Set.univ}=> bodyPost m c)) := by
  unfold bodyPre Φ₀ start
  simp only [before_x, before_r]
  iintro ⟨⟨⟨⟨%κ, #HR⟩, #HL, Ht, Hc, Hh, Hsp⟩, Hrest⟩, Ho, ⟨%d0, Hx⟩, ⟨%d1, Hr⟩, %d2, Hout⟩
  ihave HE := (enter m c) $$ [Hrest Hh]
  · isplitl [Hrest]; · iexact Hrest
    iexact Hh
  icases HE with ⟨Hscr, Hid⟩
  unfold Dat.owesAt Pipeline.owesWithin
  icases Ho with ⟨%W, %hW, HO⟩
  ihave Hout := (isBuf_any c cc0_stg2_0 _) $$ Hout
  iapply (body_run m κ c) $$ [Ht Hc Hscr Hid HO Hx Hr Hout]
  · isplitr; · iexact HR
    isplitr; · iexact HL
    isplitl [HO]; · unfold ow; iexists W; iexact HO
    isplitl [Ht]; · iexact Ht
    isplitl [Hc]; · iexact Hc
    isplitl [Hid]; · iexact Hid
    isplitl [Hscr]; · iexact Hscr
    rw [own_xM, own_rM, ← anyBuf_eq]
    isplitl [Hx]; · iexact Hx
    isplitl [Hr]; · iexact Hr
    iexact Hout
  iintro ⟨HO, Hc, Hid, Hscr, Hx, Hr, Hout⟩
  ihave HE := (leave m c) $$ [Hscr Hid]
  · isplitl [Hscr]; · iexact Hscr
    iexact Hid
  icases HE with ⟨Hrest, Hh⟩
  unfold held
  icases Hh with ⟨Ha, Hb, Hs0, Hs1⟩
  imod (close_all m κ c) $$ [Hc Hsp Hs0 Hs1] with ⟨Hown, Hun⟩
  · isplitr; · iexact HR
    isplitl [Hc]; · iexact Hc
    unfold extra
    isplitl [Hs0]; · iexact Hs0
    isplitl [Hs1]; · iexact Hs1
    iexact Hsp
  imodintro
  unfold bodyPost Φ₁ left Dat.owesAt Pipeline.owesWithin
  isplitl [Hown Hun Hrest Ha Hb]
  · isplitl [Hun Ha Hb]
    · isplitl [Hun]; · iexact Hun
      isplitl [Ha]; · iexact Ha
      iexact Hb
    isplitl [Hown]; · iexact Hown
    iexact Hrest
  isplitl [HO]
  · unfold ow
    icases HO with ⟨%W', HO⟩
    iexists W'
    isplitr; · ipureintro; exact fun _ _ => Or.inl trivial
    iexact HO
  rw [← own_xM, ← own_rM, ← own_oM]
  isplitl [Hx]; · iexact Hx
  isplitl [Hr]; · iexact Hr
  iexact Hout

omit [FloatOps F] [Named F] in
theorem whole_eq (c : Dev nD) (b : Ref sig .tc) (X : b.ty.Contents (Elt F)) :
    (owns (Ix := Unit) (Name := ℕ) (U := UU) (Lvl := ℕ) (c : Thread nD τ) (Memref.whole b) fullShare X : sProp 𝕄) = isBuf c b fullShare X := by
  unfold owns isBuf; simp only [Memref.view_whole, View.read_whole, View.set_whole]

/-- The body the region runs, as its last part and the exit's end. -/
theorem body_eq : bodyAt0 (F := F) t0_0 = (p24 F >>= fun a => semSignalWord (⟨k0_dev17 a.1, k0_dev17_lt a.1⟩ : Dev nD) extS 1#32 >>= fun _ =>
      semWaitWord extS 5#32 >>= fun _ => pure ⟨⟩) := by
  unfold bodyAt0
  rw [cc0_body_eq_skeleton]
  rfl

set_option maxRecDepth 8000 in
/-- The region calls the body on the buffers of its windows. -/
theorem call_eq : defs₀ (F := F) Proc.tc 0 (t0_0, cfg0.slots t0_0) = bodyAt0 t0_0 := rfl
theorem inv_before (c : Dev nD) : (dats m 0 c).Φ t0_0.castSucc = Φ₀ m c := rfl
theorem inv_after (c : Dev nD) : (dats m 0 c).Φ t0_0.succ = Φ₁ m c := rfl
theorem after_x (c : Dev nD) : (dats m 0 c).after 0 t0_0 = xs m c := rfl
theorem after_r (c : Dev nD) : (dats m 0 c).after 1 t0_0 = rs m c := rfl
theorem after_o (c : Dev nD) : (dats m 0 c).after 2 t0_0 = outAt m c := rfl

theorem body_at (c : Dev nD) : bodyPre m c ⊢ wpb (F := F) c (bodyAt0 t0_0) (fun _ => bodyPost m c) := by
  rw [body_eq]
  exact (body_whole m c).trans (wp_fupd _ _ _ _ _)

/-- The library's body obligation on device `c`. -/
theorem body_obligation (c : Dev nD) : BodyObligation (dats (F := F) m 0 c) (defs₀ (F := F)) 𝒱₀ () Set.univ := fun t => by
  rw [fin_N0 t, bigSep_W0, bigSep_W0]
  simp only [whole_eq]
  rw [call_eq, inv_before, inv_after, after_x, after_r, after_o]
  have h := body_at m c
  unfold bodyPre bodyPost wpb at h
  convert h using 2

/-! ## The conditions of the launch -/

theorem lv_other (c : Dev nD) (s : SemLoc sig) (h : kindOf s = none) : lv ((c : Thread nD τ), s) () ≤ 0 := by
  unfold lv; dsimp only; rw [h]

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 (barL c) (lv_other c _ (by fin_cases w <;> fin_cases s <;> decide +kernel)) (lev_bar c)
    · show (levAts L lv : sProp 𝕄) ⊢ MayWait (c : Thread nD τ) _ () 0
      rw [MayWait_zero]; iintro -; iempintro

theorem isBuf_intro (c : Dev nD) (b : Ref sig .tc) (X) : ((((c : Thread nD τ).loc b) ↦{fullShare} X) : sProp 𝕄) ⊢ isBuf (F := F) c b fullShare X := by
  unfold isBuf
  iintro H
  iexists X
  isplitr; · ipureintro; rfl
  iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start extra held
  iintro ⟨⟨Ha, Hb⟩, HL, Hcr, -, ⟨HR, Hat, Htok, Hs0, Hs1, Hsp⟩⟩
  ihave Hc := (cells_pre c) $$ [Hcr Hat]
  · isplitl [Hcr]; · iexact Hcr
    iexact Hat
  ihave Ht := (tokens_of c) $$ Htok
  ihave Ha := (isBuf_intro c main_arg2 _) $$ Ha
  ihave Hb := (isBuf_intro c main_arg3 _) $$ Hb
  imodintro
  isplitl; swap; · iempintro
  isplitl [HR]; · iexact HR
  isplitl [HL]; · iexact HL
  isplitl [Ht]; · iexact Ht
  isplitl [Hc]; · iexact Hc
  isplitl [Ha Hb Hs0 Hs1]
  · isplitl [Ha]; · iexact Ha
    isplitl [Hb]; · iexact Hb
    isplitl [Hs0]; · iexact Hs0
    iexact Hs1
  iexact Hsp

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest_eq]
  unfold Φ₀
  iintro ⟨Hs, -, Hr⟩
  isplitl [Hs]; · iexact Hs
  iexact Hr

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest_eq]
  unfold Φ₁
  exact Entails.refl _

/-- What is read of a device at the end: its barrier counter at zero, its weights as launched. -/
def QY (c : Dev nD) (s : MemSt nD τ sig (Elt F)) : Prop :=
  (∀ sm : SemLoc sig, sm.isScoped .tc = false → s.sem ((c.tc : Thread nD τ), sm) = 0)
    ∧ s.mem ((c.tc : Thread nD τ).loc main_arg2) = m ((c.tc : Thread nD τ).loc main_arg2)
    ∧ s.mem ((c.tc : Thread nD τ).loc main_arg3) = m ((c.tc : Thread nD τ).loc main_arg3)

theorem left_read (c : Dev nD) (s' : Phys nD τ sig (Elt F)) : iprop(left m c ∗ emp ∗ SI s') ⊢ |={Set.univ}=> iprop(⌜QY m c s'.mem⌝ ∗ SI s') := by
  unfold left isBuf
  iintro ⟨⟨Hu, ⟨%f, %hf, Ha⟩, %g, %hg, Hb⟩, -, HSI⟩
  icombine HSI Ha gives %ha
  icombine HSI Hb gives %hb
  imod (Pipeline.unscopedSems0_read (X := unscopedSems0 c) (c := c) fupd_intro s') $$ [Hu HSI] with ⟨%hz, HSI⟩
  · isplitl [Hu]; · iexact Hu
    iexact HSI
  imodintro
  isplitr [HSI]
  · ipureintro
    exact ⟨hz, (Buf.eq_of_forall_mem_univ ha).trans hf, (Buf.eq_of_forall_mem_univ hb).trans hg⟩
  iexact HSI

/-! ## The run -/

/-- What device `c` holds at the end. -/
def AtEnd (s : MemSt nD τ sig (Elt F)) : Prop :=
  ∀ c : Dev nD, (∀ w, s.mem ((cfg0.win w).arr.view.loc (c : Thread nD τ)) = (dats m 0 c).arrAt w cfg0.N) ∧ QY m c s

set_option maxRecDepth 8000 in
/-- From any memory with zero counters every weakly fair execution ends with each device's result as computed, its
    inputs as launched and every counter at zero. -/
theorem run_main : θ_run defs (onTc (τ := τ) (main (F := F))) ⟨m, fun _ => 0, ρ⟩ (fun r => AtEnd m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show BI.own (embR (initOf ringCells ringToks, (1 : Counters))) ⊢ (BI.own (ER (initOf ringCells ringToks)) : sProp 𝕄) from Entails.refl _) $$ HX
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := QY m) (hY := left_read m)
    (hQ := fun _ h hs => ⟨fun c => ⟨(h c).1, (h c).2.2⟩, sem_eq_zero hs fun c => (h c).2.2.1⟩)

/-- The four arguments of every device end as they began. -/
theorem args_kept {s : MemSt nD τ sig (Elt F)} (h : AtEnd m s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3) :=
  ⟨((h c).1 0).trans ((dats m 0 c).arrAt_in 0 rfl _), ((h c).1 1).trans ((dats m 0 c).arrAt_in 1 rfl _),
    (h c).2.2.1, (h c).2.2.2⟩

end Cert.KernelIdealProof
-- ==== Proof.Reference.lean ====
/-
# The reference's run

The operations of the reference in order, their run, and the result as one function of the four arguments:
the router's rows, the two largest entries of a row and their places, the softmax of the two, the weight of
each expert, each expert's two layers, and the weighted sum.
-/
module

public import proofs.«01_k».proof.Proof.Gen.ReferenceIdeal
public import Idealize.ShloMosaic.Lib.StableHlo.Run
public import Idealize.ShloMosaic.Lib.Quiescent

@[expose] public section

set_option synthInstance.maxSize 4096

noncomputable section

namespace Cert.ReferenceProof

open Cert.ReferenceIdeal Cert.ReferenceIdeal.Gen
open Idealize.ShloMosaic Idealize.ShloMosaic.TcCoe Idealize.ShloMosaic.StableHlo Idealize.SL.Sem

variable {F : FTy → Type} [FloatOps F]

/-- The operations of the program, in order. -/
abbrev ops : List (HloOp τ sig (Elt F)) :=
  [ binary main_arg0 main_arg1 main_v0 ((fun l r => Host.dotGeneral dot_S1024x1024_S1024x16_S1024x16_1_0_0_1_n_n none l r) : (⟨S1024x1024, .f32⟩ : BufTy).Contents (Elt F) → (⟨S1024x16, .f32⟩ : BufTy).Contents (Elt F) → (⟨S1024x16, .f32⟩ : BufTy).Contents (Elt F)),
    unary main_v0 main_values ((fun x => (Host.topK S1024x2 1 (FloatOps.cmpfTotal .gt) x sliceFits_S1024x16_S1024x2).1) : (⟨S1024x16, .f32⟩ : BufTy).Contents (Elt F) → (⟨S1024x2, .f32⟩ : BufTy).Contents (Elt F)),
    unary main_v0 main_indices ((fun x => (Host.topK S1024x2 1 (FloatOps.cmpfTotal .gt) x sliceFits_S1024x16_S1024x2).2) : (⟨S1024x16, .f32⟩ : BufTy).Contents (Elt F) → (⟨S1024x2, .i32⟩ : BufTy).Contents (Elt F)),
    nullary main_cst (constant S_ .f32 0xFF800000#32),
    binary main_values main_cst main_v1 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)),
    unary main_v1 main_v2 (broadcastInDim S1024x1 ![0] bcast_S1024_S1024x1_0 : (⟨S1024, .f32⟩ : BufTy).Contents (Elt F) → (⟨S1024x1, .f32⟩ : BufTy).Contents (Elt F)),
    unary main_v2 main_v3 (broadcastInDim S1024x2 ![0, 1] bcast_S1024x1_S1024x2_0_1 : (⟨S1024x1, .f32⟩ : BufTy).Contents (Elt F) → (⟨S1024x2, .f32⟩ : BufTy).Contents (Elt F)),
    binary main_values main_v3 main_v4 (subf : (⟨S1024x2, .f32⟩ : BufTy).Contents (Elt F) → (⟨S1024x2, .f32⟩ : BufTy).Contents (Elt F) → (⟨S1024x2, .f32⟩ : BufTy).Contents (Elt F)),
    unary main_v4 main_v5 (Host.exp : (⟨S1024x2, .f32⟩ : BufTy).Contents (Elt F) → (⟨S1024x2, .f32⟩ : BufTy).Contents (Elt F)),
    nullary main_cst_0 (constant S_ .f32 0x00000000#32),
    binary main_v5 main_cst_0 main_v6 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    unary main_v6 main_v7 (broadcastInDim S1024x1 ![0] bcast_S1024_S1024x1_0 : (⟨S1024, .f32⟩ : BufTy).Contents (Elt F) → (⟨S1024x1, .f32⟩ : BufTy).Contents (Elt F)),
    unary main_v7 main_v8 (broadcastInDim S1024x2 ![0, 1] bcast_S1024x1_S1024x2_0_1 : (⟨S1024x1, .f32⟩ : BufTy).Contents (Elt F) → (⟨S1024x2, .f32⟩ : BufTy).Contents (Elt F)),
    binary main_v5 main_v8 main_v9 (Host.divf : (⟨S1024x2, .f32⟩ : BufTy).Contents (Elt F) → (⟨S1024x2, .f32⟩ : BufTy).Contents (Elt F) → (⟨S1024x2, .f32⟩ : BufTy).Contents (Elt F)),
    unary main_indices main_v10 (broadcastInDim S1024x1x2 ![0, 2] bcast_S1024x2_S1024x1x2_0_2 : (⟨S1024x2, .i32⟩ : BufTy).Contents (Elt F) → (⟨S1024x1x2, .i32⟩ : BufTy).Contents (Elt F)),
    nullary main_v11 (iotaInDim S16 32 0),
    unary main_v11 main_v12 (broadcastInDim S1x16x1 ![1] bcast_S16_S1x16x1_1 : (⟨S16, .i32⟩ : BufTy).Contents (Elt F) → (⟨S1x16x1, .i32⟩ : BufTy).Contents (Elt F)),
    unary main_v10 main_v13 (broadcastInDim S1024x16x2 ![0, 1, 2] bcast_S1024x1x2_S1024x16x2_0_1_2 : (⟨S1024x1x2, .i32⟩ : BufTy).Contents (Elt F) → (⟨S1024x16x2, .i32⟩ : BufTy).Contents (Elt F)),
    unary main_v12 main_v14 (broadcastInDim S1024x16x2 ![0, 1, 2] bcast_S1x16x1_S1024x16x2_0_1_2 : (⟨S1x16x1, .i32⟩ : BufTy).Contents (Elt F) → (⟨S1024x16x2, .i32⟩ : BufTy).Contents (Elt F)),
    binary main_v13 main_v14 main_v15 (cmpi .eq : (⟨S1024x16x2, .i32⟩ : BufTy).Contents (Elt F) → (⟨S1024x16x2, .i32⟩ : BufTy).Contents (Elt F) → (⟨S1024x16x2, .i1⟩ : BufTy).Contents (Elt F)),
    unary main_v9 main_v16 (broadcastInDim S1024x1x2 ![0, 2] bcast_S1024x2_S1024x1x2_0_2 : (⟨S1024x2, .f32⟩ : BufTy).Contents (Elt F) → (⟨S1024x1x2, .f32⟩ : BufTy).Contents (Elt F)),
    nullary main_cst_1 (constant S_ .f32 0x00000000#32),
    TRef.unary (.of main_cst_1 : TRef sig ⟨S_, .f32⟩) main_call0.v0 id,
    TRef.unary (.of main_v16 : TRef sig ⟨S1024x1x2, .f32⟩) main_call0.v1 (broadcastInDim S1024x16x2 ![0, 1, 2] bcast_S1024x1x2_S1024x16x2_0_1_2),
    TRef.unary main_call0.v0 main_call0.v2 (broadcastInDim S1024x16x2 ![] bcast_S_S1024x16x2),
    TRef.ternary (.of main_v15 : TRef sig ⟨S1024x16x2, .i1⟩) main_call0.v1 main_call0.v2 main_call0.v3 select,
    nullary main_cst_2 (constant S_ .f32 0x00000000#32),
    binary main_v17 main_cst_2 main_v18 ((fun x v => Host.reduceAdd x v reducesTo_S1024x16x2_S1024x16_d2 h_S_) : (⟨S1024x16x2, .f32⟩ : BufTy).Contents (Elt F) → (⟨S_, .f32⟩ : BufTy).Contents (Elt F) → (⟨S1024x16, .f32⟩ : BufTy).Contents (Elt F)),
    binary main_arg2 main_arg0 main_v19 ((fun l r => Host.dotGeneral dot_S16x1024x2048_S1024x1024_S16x2048x1024_1_1_02_0_n_n none l r) : (⟨S16x1024x2048, .f32⟩ : BufTy).Contents (Elt F) → (⟨S1024x1024, .f32⟩ : BufTy).Contents (Elt F) → (⟨S16x2048x1024, .f32⟩ : BufTy).Contents (Elt F)),
    unary main_v19 main_v20 ((transpose S16x1024x2048 [0, 2, 1] · transposes_S16x2048x1024_S16x1024x2048_0_2_1) : (⟨S16x2048x1024, .f32⟩ : BufTy).Contents (Elt F) → (⟨S16x1024x2048, .f32⟩ : BufTy).Contents (Elt F)),
    nullary main_cst_3 (constant S_ .f32 0x00000000#32),
    unary main_cst_3 main_v21 (broadcastInDim S16x1024x2048 ![] bcast_S_S16x1024x2048 : (⟨S_, .f32⟩ : BufTy).Contents (Elt F) → (⟨S16x1024x2048, .f32⟩ : BufTy).Contents (Elt F)),
    binary main_v20 main_v21 main_v22 (maximumf : (⟨S16x1024x2048, .f32⟩ : BufTy).Contents (Elt F) → (⟨S16x1024x2048, .f32⟩ : BufTy).Contents (Elt F) → (⟨S16x1024x2048, .f32⟩ : BufTy).Contents (Elt F)),
    binary main_v22 main_arg3 main_v23 ((fun l r => Host.dotGeneral dot_S16x1024x2048_S16x2048x1024_S16x1024x1024_2_1_1_2_0_0 none l r) : (⟨S16x1024x2048, .f32⟩ : BufTy).Contents (Elt F) → (⟨S16x2048x1024, .f32⟩ : BufTy).Contents (Elt F) → (⟨S16x1024x1024, .f32⟩ : BufTy).Contents (Elt F)),
    binary main_v18 main_v23 main_v24 ((fun l r => Host.dotGeneral dot_S1024x16_S16x1024x1024_S1024x1024_1_0_n_2_0_1 none l r) : (⟨S1024x16, .f32⟩ : BufTy).Contents (Elt F) → (⟨S16x1024x1024, .f32⟩ : BufTy).Contents (Elt F) → (⟨S1024x1024, .f32⟩ : BufTy).Contents (Elt F)) ]

theorem main_eq (c : Dev nD) : main (F := F) c = seq ops := by
  simp only [main, fn_where.body, seq, bind_assoc, pure_bind]

/-- The router's rows. -/
def gate (x : FVec F S1024x1024 .f32) (r : FVec F S1024x16 .f32) : FVec F S1024x16 .f32 :=
  Host.dotGeneral dot_S1024x1024_S1024x16_S1024x16_1_0_0_1_n_n none x r

/-- The two largest entries of each row, -/
def tops (g : FVec F S1024x16 .f32) : FVec F S1024x2 .f32 :=
  (Host.topK S1024x2 1 (FloatOps.cmpfTotal .gt) g sliceFits_S1024x16_S1024x2).1

/-- and their places. -/
def places (g : FVec F S1024x16 .f32) : IVec S1024x2 32 :=
  (Host.topK S1024x2 1 (FloatOps.cmpfTotal .gt) g sliceFits_S1024x16_S1024x2).2

/-- The exponentials of the two entries, each less the larger. -/
def exps (v : FVec F S1024x2 .f32) : FVec F S1024x2 .f32 :=
  Host.exp (subf v (broadcastInDim S1024x2 ![0, 1] bcast_S1024x1_S1024x2_0_1 (broadcastInDim S1024x1 ![0] bcast_S1024_S1024x1_0
    (Host.reduce FloatOps.maximumf v (constant S_ .f32 0xFF800000#32) reducesTo_S1024x2_S1024_d1 h_S_))))

/-- The softmax of the two entries. -/
def soft (v : FVec F S1024x2 .f32) : FVec F S1024x2 .f32 :=
  Host.divf (exps v) (broadcastInDim S1024x2 ![0, 1] bcast_S1024x1_S1024x2_0_1 (broadcastInDim S1024x1 ![0] bcast_S1024_S1024x1_0
    (Host.reduceAdd (exps v) (constant S_ .f32 0x00000000#32) reducesTo_S1024x2_S1024_d1 h_S_)))

/-- Of each row and expert, whether each place is the expert. -/
def chosen (i : IVec S1024x2 32) : IVec S1024x16x2 1 :=
  cmpi .eq (broadcastInDim S1024x16x2 ![0, 1, 2] bcast_S1024x1x2_S1024x16x2_0_1_2
      (broadcastInDim S1024x1x2 ![0, 2] bcast_S1024x2_S1024x1x2_0_2 i))
    (broadcastInDim S1024x16x2 ![0, 1, 2] bcast_S1x16x1_S1024x16x2_0_1_2
      (broadcastInDim S1x16x1 ![1] bcast_S16_S1x16x1_1 (iotaInDim S16 32 0)))

/-- The weight of each row and expert. -/
def weights (g : FVec F S1024x16 .f32) : FVec F S1024x16 .f32 :=
  Host.reduceAdd
    (select (chosen (places g))
      (broadcastInDim S1024x16x2 ![0, 1, 2] bcast_S1024x1x2_S1024x16x2_0_1_2
        (broadcastInDim S1024x1x2 ![0, 2] bcast_S1024x2_S1024x1x2_0_2 (soft (tops g))))
      (broadcastInDim S1024x16x2 ![] bcast_S_S1024x16x2 (constant S_ .f32 0x00000000#32)))
    (constant S_ .f32 0x00000000#32) reducesTo_S1024x16x2_S1024x16_d2 h_S_

/-- Each expert's first layer, cut at zero. -/
def hidden (x : FVec F S1024x1024 .f32) (w1 : FVec F S16x1024x2048 .f32) : FVec F S16x1024x2048 .f32 :=
  maximumf (transpose S16x1024x2048 [0, 2, 1]
      (Host.dotGeneral dot_S16x1024x2048_S1024x1024_S16x2048x1024_1_1_02_0_n_n none w1 x)
      transposes_S16x2048x1024_S16x1024x2048_0_2_1)
    (broadcastInDim S16x1024x2048 ![] bcast_S_S16x1024x2048 (constant S_ .f32 0x00000000#32))

/-- Each expert's second layer. -/
def experts (x : FVec F S1024x1024 .f32) (w1 : FVec F S16x1024x2048 .f32) (w2 : FVec F S16x2048x1024 .f32) :
    FVec F S16x1024x1024 .f32 :=
  Host.dotGeneral dot_S16x1024x2048_S16x2048x1024_S16x1024x1024_2_1_1_2_0_0 none (hidden x w1) w2

/-- The result: of each row, the experts' second layers summed by their weights. -/
def out (x : FVec F S1024x1024 .f32) (r : FVec F S1024x16 .f32) (w1 : FVec F S16x1024x2048 .f32)
    (w2 : FVec F S16x2048x1024 .f32) : FVec F S1024x1024 .f32 :=
  Host.dotGeneral dot_S1024x16_S16x1024x1024_S1024x1024_1_0_n_2_0_1 none (weights (gate x r)) (experts x w1 w2)

theorem out_eq (V : Valuation τ sig (Elt F)) :
    after ops V (main_v24 : DevRef τ sig)
      = out (V (main_arg0 : DevRef τ sig)) (V (main_arg1 : DevRef τ sig)) (V (main_arg2 : DevRef τ sig))
          (V (main_arg3 : DevRef τ sig)) := by
  after_results_simp
  simp -implicitDefEqProofs only [TRef.toBuf, TRef.ofBuf, cast_cast, cast_eq, id_eq]
  simp only [out, weights, gate, experts, hidden, chosen, soft, exps, places, tops]

theorem arg0_eq (V : Valuation τ sig (Elt F)) : after ops V (main_arg0 : DevRef τ sig) = V (main_arg0 : DevRef τ sig) := by
  simp only [after_cons, after_nil]; rfl
theorem arg1_eq (V : Valuation τ sig (Elt F)) : after ops V (main_arg1 : DevRef τ sig) = V (main_arg1 : DevRef τ sig) := by
  simp only [after_cons, after_nil]; rfl
theorem arg2_eq (V : Valuation τ sig (Elt F)) : after ops V (main_arg2 : DevRef τ sig) = V (main_arg2 : DevRef τ sig) := by
  simp only [after_cons, after_nil]; rfl
theorem arg3_eq (V : Valuation τ sig (Elt F)) : after ops V (main_arg3 : DevRef τ sig) = V (main_arg3 : DevRef τ sig) := by
  simp only [after_cons, after_nil]; rfl

theorem ops_sub : (ops : List (HloOp τ sig (Elt F))).Forall fun op => op.bufs ⊆ tcRefs τ sig :=
  ⟨binary_bufs_sub .., unary_bufs_sub .., unary_bufs_sub .., nullary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., nullary_bufs_sub .., unary_bufs_sub .., unary_bufs_sub ..,
    unary_bufs_sub .., binary_bufs_sub .., unary_bufs_sub .., nullary_bufs_sub .., unary_bufs_sub .., unary_bufs_sub ..,
    unary_bufs_sub .., ternary_bufs_sub .., nullary_bufs_sub .., binary_bufs_sub .., binary_bufs_sub .., unary_bufs_sub ..,
    nullary_bufs_sub .., unary_bufs_sub .., binary_bufs_sub .., binary_bufs_sub .., binary_bufs_sub ..⟩

/-- From any memory with zero counters the reference runs, its result is `out` of its arguments, and these stay. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v24)
          = out (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono
    (fun r h => ⟨fun c => ⟨(h c main_v24).trans (out_eq _), (h c main_arg0).trans (arg0_eq _),
        (h c main_arg1).trans (arg1_eq _), (h c main_arg2).trans (arg2_eq _), (h c main_arg3).trans (arg3_eq _)⟩,
      sem_eq_zero_of_no_sems (by decide) r.2⟩)
    (run_seq (by decide) (by decide) defs main (fun _ => ops) main_eq (fun _ => ops_sub) m ρ)

end Cert.ReferenceProof

end
-- ==== Proof.Facts.lean ====
/-
# The frames, the named constant, and the side conditions of the precondition
-/
module

public import proofs.«01_k».proof.Defs
public import proofs.«01_k».proof.Proof.Kernel.Run
public import proofs.«01_k».proof.Proof.KernelIdeal.Run
public import proofs.«01_k».proof.Proof.Reference

@[expose] public section

noncomputable section

namespace Cert.Proof

open Idealize.ShloMosaic Idealize.SL.Sem

/-- The kernel runs on any memory, leaves its arguments and ends with every counter at zero. -/
theorem frame_kernel : Cert.quiescent_Kernel := fun m g _ =>
  (θ_run Cert.Kernel.defs _ _).mono (fun _ h => ⟨fun c => Cert.KernelProof.args_kept m h.1 c, h.2⟩)
    (Cert.KernelProof.run_main (F := Bits) m g)

/-- So does the kernel over the extended reals, -/
theorem frame_ideal : Cert.quiescent_KernelIdeal := fun m g _ =>
  (θ_run Cert.KernelIdeal.defs _ _).mono (fun _ h => ⟨fun c => Cert.KernelIdealProof.args_kept m h.1 c, h.2⟩)
    (Cert.KernelIdealProof.run_main (F := Ideal) m g)

/-- and the reference. -/
theorem frame_reference : Cert.quiescent_ReferenceIdeal := fun m g _ =>
  (θ_run Cert.ReferenceIdeal.defs _ _).mono (fun _ h => ⟨fun c => (h.1 c).2, h.2⟩)
    (Cert.ReferenceProof.run_main (F := Ideal) m g)

/-- The constant standing for minus infinity is minus infinity. -/
theorem mask_preserves : Cert.preserves_Kernel_KernelIdeal :=
  IdealRules.named_const.statement Cert.KernelIdeal.κ "mask" .f32 0xF149F2CA#32 ⊥ rfl

/-- What the precondition asks of the shapes, on a device's blocks -/
instance tame_blocks : Cert.Pre_tame_KernelIdeal.Facts := ⟨by decide, by decide⟩

/-- and on the whole arrays. -/
instance tame_whole : Cert.Pre_tame_ReferenceIdeal.Facts := ⟨by decide, by decide⟩

end Cert.Proof

end
-- ==== Proof.TopTwo.lean ====
/-
# The two largest entries of a row

Of a row of sixteen extended reals: the place of the largest entry, the first of them where several are equal, and the
place of the largest of the others, again the first. They exist, a stable descending sort puts them in front, and a
maximum or a least place over the row finds them.
-/
module

public import Idealize.ShloMosaic.Lib.Pointwise
public import Idealize.ShloMosaic.Lib.SortPrefix

@[expose] public section

noncomputable section

namespace Cert.TopTwo

open Idealize.ShloMosaic

/-- `i` is the first place of the row's largest entry, `j` the first place of the largest of the others. -/
structure IsTop (g : Fin 16 → EReal) (i j : Fin 16) : Prop where
  ne : j ≠ i
  le : ∀ k, g k ≤ g i
  lt : ∀ k, k < i → g k < g i
  le' : ∀ k, k ≠ i → g k ≤ g j
  lt' : ∀ k, k ≠ i → k < j → g k < g j

/-- Among the places of a nonempty set there is a first one with the largest entry. -/
theorem exists_first (g : Fin 16 → EReal) (S : Finset (Fin 16)) (hS : S.Nonempty) :
    ∃ i ∈ S, (∀ k ∈ S, g k ≤ g i) ∧ ∀ k ∈ S, k < i → g k < g i := by
  obtain ⟨a, ha, hmax⟩ := S.exists_max_image g hS
  obtain ⟨i, hi, hmin⟩ := (S.filter fun k => g k = g a).exists_min_image id ⟨a, by simp [ha]⟩
  simp only [Finset.mem_filter] at hi hmin
  refine ⟨i, hi.1, fun k hk => hi.2 ▸ hmax k hk, fun k hk hlt => ?_⟩
  refine lt_of_le_of_ne (hi.2 ▸ hmax k hk) fun e => ?_
  exact absurd (hmin k ⟨hk, e.trans hi.2⟩) (not_le.mpr hlt)

theorem exists_isTop (g : Fin 16 → EReal) : ∃ i j, IsTop g i j := by
  obtain ⟨i, -, h1, h2⟩ := exists_first g Finset.univ ⟨0, Finset.mem_univ _⟩
  obtain ⟨j, hj, h3, h4⟩ := exists_first g (Finset.univ.erase i) ⟨if i = 0 then 1 else 0, by
    simp only [Finset.mem_erase, Finset.mem_univ, and_true]; split
    · rename_i h; subst h; decide
    · rename_i h; exact fun e => h e.symm⟩
  simp only [Finset.mem_erase, Finset.mem_univ, and_true, true_and, ne_eq, forall_const] at *
  exact ⟨i, j, hj, h1, fun k => h2 k, h3, h4⟩

/-! ## A stable descending sort -/

/-- Larger entries first. -/
def before (g : Fin 16 → EReal) (k k' : Fin 16) : Bool := decide (g k' < g k)

/-- Larger entries first, equal ones in the order of their places. -/
def before' (g : Fin 16 → EReal) (k k' : Fin 16) : Bool :=
  decide (g k' < g k) || (decide (g k = g k') && decide (k < k'))

theorem before'_total (g : Fin 16 → EReal) : StrictTotalBefore (before' g) :=
  StrictTotalBefore.of_key_then_position (fun a b : EReal => decide (b < a)) g (fun a => by simp)
    (fun a b c h h' => by simp only [decide_eq_true_eq] at *; exact h'.trans h)
    (fun a b => by
      simp only [decide_eq_true_eq]
      rcases lt_trichotomy a b with h | h | h
      · exact .inr (.inr h)
      · exact .inr (.inl h)
      · exact .inl h)

/-- A sort that keeps equal entries in order is the sort by the entry and then by the place. -/
theorem stableSort_before (g : Fin 16 → EReal) (l : List (Fin 16)) (hl : l.Pairwise (· < ·)) :
    stableSort (before g) l = stableSort (before' g) l := by
  induction l with
  | nil => rfl
  | cons a l ih =>
    obtain ⟨ha, hl⟩ := List.pairwise_cons.mp hl
    unfold stableSort
    rw [ih hl]
    refine insertBefore_congr _ _ a _ fun b hb => ?_
    have hab := ha b ((perm_stableSort (before' g) l).mem_iff.mp hb)
    simp [before, before', not_lt.mpr hab.le]

theorem get_congr {n : ℕ} {l l' : List (Fin n)} (h : l = l') (hl : n = l.length) (hl' : n = l'.length) (k : Fin n) :
    l.get (k.cast hl) = l'.get (k.cast hl') := by
  subst h; rfl

theorem sortedFrom_congr' {n : ℕ} {B B' : Fin n → Fin n → Bool} (h : sortPositions n B = sortPositions n B') (k : Fin n) :
    sortedFrom B k = sortedFrom B' k :=
  get_congr h _ _ k

theorem sortedFrom_before (g : Fin 16 → EReal) (k : Fin 16) : sortedFrom (before g) k = sortedFrom (before' g) k :=
  sortedFrom_congr' (stableSort_before g _ (List.pairwise_lt_finRange 16)) k

/-- The sort puts the two places in front. -/
theorem sortedFrom_eq {g : Fin 16 → EReal} {i j : Fin 16} (h : IsTop g i j) :
    sortedFrom (before g) 0 = i ∧ sortedFrom (before g) 1 = j := by
  have hij : before' g j i = false := by
    simp only [before', Bool.or_eq_false_iff, decide_eq_false_iff_not, Bool.and_eq_false_iff, not_lt]
    refine ⟨h.le j, ?_⟩
    by_cases e : g j = g i
    · exact .inr (le_of_not_gt fun hlt => absurd (h.lt j hlt) (by rw [e]; exact lt_irrefl _))
    · exact .inl e
  have key := (before'_total g).sortedFrom_eq_of_prefix (k := 2) (by decide) ![i, j]
    (by intro a b hab; fin_cases a <;> fin_cases b <;> simp_all [h.ne, h.ne.symm])
    (by
      intro a b hab
      fin_cases a <;> fin_cases b <;> simp at hab ⊢
      exact hij)
    (by
      intro a p hp
      have hpi : p ≠ i := fun e => hp 0 e.symm
      have hpj : p ≠ j := fun e => hp 1 e.symm
      simp only [before', Bool.or_eq_false_iff, decide_eq_false_iff_not, Bool.and_eq_false_iff, not_lt]
      fin_cases a
      · refine ⟨h.le p, ?_⟩
        by_cases e : g p = g i
        · exact .inr (le_of_not_gt fun hlt => absurd (h.lt p hlt) (by rw [e]; exact lt_irrefl _))
        · exact .inl e
      · refine ⟨h.le' p hpi, ?_⟩
        by_cases e : g p = g j
        · exact .inr (le_of_not_gt fun hlt => absurd (h.lt' p hpi hlt) (by rw [e]; exact lt_irrefl _))
        · exact .inl e)
  rw [sortedFrom_before, sortedFrom_before]
  exact ⟨key 0, key 1⟩

/-! ## A maximum and a least place -/

theorem fold_max_eq (f g : Fin 16 → EReal) (i : Fin 16) (hf : ∀ k, f k = g k) (h : ∀ k, g k ≤ g i) :
    Finset.univ.fold max ⊥ f = g i := by
  obtain rfl : f = g := funext hf
  exact le_antisymm ((Finset.fold_max_le _).mpr ⟨bot_le, fun k _ => h k⟩)
    ((Finset.le_fold_max _).mpr (.inr ⟨i, Finset.mem_univ _, le_rfl⟩))

theorem toInt_minsi (a b : BitVec 32) : (IntOp.minsi a b).toInt = min a.toInt b.toInt := by
  unfold IntOp.minsi
  simp only [BitVec.slt, decide_eq_true_eq]
  split
  · rename_i h; exact (min_eq_left h.le).symm
  · rename_i h; exact (min_eq_right (not_lt.mp h)).symm

theorem toInt_ofNat (k : Fin 16) : (BitVec.ofNat 32 k.val).toInt = k.val := by
  fin_cases k <;> rfl

/-- The least place with a property, where the places without it read 16. -/
theorem fold_minsi_eq (f : Fin 16 → BitVec 32) (P : Fin 16 → Prop) [DecidablePred P] (i : Fin 16)
    (hf : ∀ k, f k = if P k then BitVec.ofNat 32 k.val else 16#32) (hi : P i) (hlt : ∀ k, k < i → ¬ P k) :
    Finset.univ.fold IntOp.minsi 2147483647#32 f = BitVec.ofNat 32 i.val := by
  apply BitVec.eq_of_toInt_eq
  rw [← Finset.fold_hom (op := IntOp.minsi) (op' := min) (m := BitVec.toInt) toInt_minsi, toInt_ofNat]
  have hv : ∀ k, (f k).toInt = if P k then (k.val : ℤ) else 16 := by
    intro k; rw [hf]; split
    · exact toInt_ofNat k
    · rfl
  apply le_antisymm
  · exact (Finset.fold_min_le _).mpr (.inr ⟨i, Finset.mem_univ _, by rw [hv, if_pos hi]⟩)
  · refine (Finset.le_fold_min _).mpr ⟨?_, fun k _ => ?_⟩
    · have : (2147483647#32 : BitVec 32).toInt = 2147483647 := rfl
      rw [this]; have := i.isLt; omega
    · rw [hv]; split
      · rename_i h
        have : ¬ k < i := fun hk => hlt k hk h
        rw [Fin.lt_def] at this; omega
      · have := i.isLt; omega

/-! ## Selections -/

theorem select_word (p q : Fin 16) (x y : EReal) :
    Scalar.select (IntOp.cmpi CmpIPredicate.eq (BitVec.ofNat 32 p.val) (BitVec.ofNat 32 q.val)) x y = if p = q then x else y := by
  have h : IntOp.cmpi CmpIPredicate.eq (BitVec.ofNat 32 p.val) (BitVec.ofNat 32 q.val) = if p = q then 1#1 else 0#1 := by
    by_cases e : p = q
    · subst e; simp [IntOp.cmpi]
    · rw [if_neg e]
      have hne : ¬ BitVec.ofNat 32 p.val = BitVec.ofNat 32 q.val := by
        intro hb
        have := congrArg BitVec.toInt hb
        rw [toInt_ofNat, toInt_ofNat] at this
        exact e (Fin.ext (by omega))
      simp only [IntOp.cmpi, beq_eq_false_iff_ne.mpr hne, BitVec.ofBool_false]; rfl
  rw [h]; by_cases e : p = q
  · simp [e, Scalar.select]
  · simp [e, Scalar.select]

theorem select_eq {α : Type} (a b : EReal) (x y : α) :
    Scalar.select (Ideal.cmp .oeq a b) x y = if a = b then x else y := by
  by_cases e : a = b
  · simp [e, Scalar.select, Ideal.cmp]
  · simp [e, Scalar.select, Ideal.cmp]

theorem cmp_gt (a b : EReal) : (Ideal.cmp CmpDirection.gt.ordered a b == 1#1) = decide (b < a) := by
  by_cases e : b < a
  · simp [e, CmpDirection.ordered, Ideal.cmp]
  · simp [e, CmpDirection.ordered, Ideal.cmp]

/-! ## The weights of the two entries -/

/-- The larger entry's share of the softmax of the two. -/
def share (a b : EReal) : EReal := Ideal.div 1 (1 + Ideal.exp (b - a))

/-- A row's weight of an expert: the softmax of the two largest entries at their places, zero elsewhere. -/
def weight (g : Fin 16 → EReal) (i j e : Fin 16) : EReal :=
  (if i = e then share (g i) (g j) else 0) + (if j = e then 1 - share (g i) (g j) else 0)

/-- Of two reals, the larger first: the exponentials, each less the larger, over their sum. -/
theorem softmax_fst (a b : ℝ) :
    Ideal.div (Ideal.exp ((a : EReal) - a)) (Ideal.exp ((a : EReal) - a) + Ideal.exp ((b : EReal) - a)) = share a b := by
  unfold share
  rw [← EReal.coe_sub, sub_self, EReal.coe_zero, ← EReal.coe_zero, Ideal.exp_coe, Real.exp_zero, EReal.coe_one]

theorem softmax_snd (a b : ℝ) :
    Ideal.div (Ideal.exp ((b : EReal) - a)) (Ideal.exp ((a : EReal) - a) + Ideal.exp ((b : EReal) - a)) = 1 - share a b := by
  unfold share
  have hp : (1 : ℝ) + Real.exp (b - a) ≠ 0 := by positivity
  rw [← EReal.coe_sub, ← EReal.coe_sub, sub_self, Ideal.exp_coe, Ideal.exp_coe, Real.exp_zero, ← EReal.coe_one, ← EReal.coe_add,
    Ideal.div_coe hp, Ideal.div_coe hp, ← EReal.coe_mul, ← EReal.coe_mul, ← EReal.coe_sub]
  congr 1
  field_simp
  ring

end Cert.TopTwo
-- ==== Proof.KernelValue.lean ====
/-
# One device's partial sum at an index

The kernel's payloads read at an index over the extended reals: the router's rows from the four gathered slots, the two
largest entries of a row and their shares, the four experts of the device, and the sum of their outputs by their weights.
-/
module

public import proofs.«01_k».proof.Proof.TopTwo
public import proofs.«01_k».proof.Proof.KernelIdeal.Proto
public import Idealize.ShloMosaic.PureOps.Ideal

@[expose] public section

set_option synthInstance.maxSize 4096

noncomputable section

namespace Cert.KernelIdealProof

open Cert.KernelIdeal Cert.KernelIdeal.Gen
open Idealize.ShloMosaic

local notation "FI" => Idealize.ShloMosaic.Ideal

theorem ofBits_bot : Ideal.ofBits .f32 0xFF800000#32 = ⊥ := by simp [Ideal.ofBits, Ideal.ieee]

/-- The word of expert `k` of the block of experts `z`. -/
theorem expert_word (z k : Fin 4) :
    Scalar.addi (Scalar.muli (BitVec.ofNat 32 z.val) 4#32) (BitVec.ofNat 32 k.val)
      = BitVec.ofNat 32 (⟨4 * z.val + k.val, by omega⟩ : Fin 16).val := by
  revert z k; decide

theorem select_expert (z k : Fin 4) (p : Fin 16) (u v : EReal) :
    Scalar.select (IntOp.cmpi CmpIPredicate.eq (BitVec.ofNat 32 p.val)
        (Scalar.addi (Scalar.muli (BitVec.ofNat 32 z.val) 4#32) (BitVec.ofNat 32 k.val))) u v
      = if p = ⟨4 * z.val + k.val, by omega⟩ then u else v := by
  rw [expert_word, TopTwo.select_word]

theorem turn_word (z : Fin 4) : (Scalar.muli 4#32 (BitVec.ofNat 32 z.val)).toNat = 4 * z.val := by
  revert z; decide

/-- The gathered slots, turned by four columns for every device they start after, are the router's columns in order. -/
theorem turn (z : Fin 4) (rr : Fin 16 → EReal) (G : Fin 4 → Fin 4 → EReal)
    (hG : ∀ k l : Fin 4, G k l = rr ⟨4 * ((z.val + k.val) % 4) + l.val, by omega⟩) (e : Fin 16) :
    (if h : (e.val + 16 - (Scalar.muli 4#32 (BitVec.ofNat 32 z.val)).toNat % 16) % 16 < 4 then
        G 0 ⟨(e.val + 16 - (Scalar.muli 4#32 (BitVec.ofNat 32 z.val)).toNat % 16) % 16, h⟩
      else if h : (e.val + 16 - (Scalar.muli 4#32 (BitVec.ofNat 32 z.val)).toNat % 16) % 16 - 4 < 4 then
        G 1 ⟨(e.val + 16 - (Scalar.muli 4#32 (BitVec.ofNat 32 z.val)).toNat % 16) % 16 - 4, h⟩
      else if h : (e.val + 16 - (Scalar.muli 4#32 (BitVec.ofNat 32 z.val)).toNat % 16) % 16 - 4 - 4 < 4 then
        G 2 ⟨(e.val + 16 - (Scalar.muli 4#32 (BitVec.ofNat 32 z.val)).toNat % 16) % 16 - 4 - 4, h⟩
      else G 3 ⟨(e.val + 16 - (Scalar.muli 4#32 (BitVec.ofNat 32 z.val)).toNat % 16) % 16 - 4 - 4 - 4, by omega⟩) = rr e := by
  have hz : (Scalar.muli 4#32 (BitVec.ofNat 32 z.val)).toNat = 4 * z.val := turn_word z
  simp only [hz, hG]
  split
  · congr 1; apply Fin.ext; simp only [Fin.val_zero]; omega
  · split
    · congr 1; apply Fin.ext; simp only [Fin.val_one]; omega
    · split
      · congr 1; apply Fin.ext; simp only [Fin.val_two]; omega
      · congr 1; apply Fin.ext; simp only [show ((3 : Fin 4).val) = 3 from rfl]; omega

section
variable (z : Fin 4) (g0 g1 g2 g3 : Vec FI S1x1024x4 .f32) (x : Vec FI S256x1024 .f32) (t : Fin 256)

/-- The row of the router for a token, from the columns `rr`. -/
def gateRow (x : Vec FI S256x1024 .f32) (rr : Fin 1024 → Fin 16 → EReal) (t : Fin 256) (e : Fin 16) : EReal :=
  ∑ d : Fin 1024, x (ix2 t d) * rr d e

variable {rr : Fin 1024 → Fin 16 → EReal}

theorem pay21_apply
    (h0 : ∀ d (l : Fin 4), g0 (ix3 0 d l) = rr d ⟨4 * ((z.val + (0 : Fin 4).val) % 4) + l.val, by omega⟩)
    (h1 : ∀ d (l : Fin 4), g1 (ix3 0 d l) = rr d ⟨4 * ((z.val + (1 : Fin 4).val) % 4) + l.val, by omega⟩)
    (h2 : ∀ d (l : Fin 4), g2 (ix3 0 d l) = rr d ⟨4 * ((z.val + (2 : Fin 4).val) % 4) + l.val, by omega⟩)
    (h3 : ∀ d (l : Fin 4), g3 (ix3 0 d l) = rr d ⟨4 * ((z.val + (3 : Fin 4).val) % 4) + l.val, by omega⟩) (e : Fin 16) :
    k0_pay21 (BitVec.ofNat 32 z.val) g0 g1 g2 g3 x (ix2 t e) = gateRow x rr t e := by
  pointwise [k0_pay21]
  unfold gateRow
  refine Finset.sum_congr rfl fun d _ => congrArg _ ?_
  refine turn z (rr d) (fun k l => (![g0, g1, g2, g3] : Fin 4 → Vec FI S1x1024x4 .f32) k (ix3 0 d l)) ?_ e
  intro k l
  fin_cases k
  · exact h0 d l
  · exact h1 d l
  · exact h2 d l
  · exact h3 d l

variable {i j : Fin 16} (hg : ∀ e, k0_pay21 (BitVec.ofNat 32 z.val) g0 g1 g2 g3 x (ix2 t e) = gateRow x rr t e)
  (hT : TopTwo.IsTop (gateRow x rr t) i j) (hfin : ∀ e, gateRow x rr t e ≠ ⊥)
include hg hT

theorem pay22_apply : k0_pay22 (BitVec.ofNat 32 z.val) g0 g1 g2 g3 x (ix2 t 0) = gateRow x rr t i := by
  pointwise [k0_pay22]
  rw [ofBits_bot]
  exact TopTwo.fold_max_eq _ (gateRow x rr t) i (fun e => hg e) hT.le

theorem pay23_apply : k0_pay23 (BitVec.ofNat 32 z.val) g0 g1 g2 g3 x (ix2 t 0) = BitVec.ofNat 32 i.val := by
  pointwise [k0_pay23]
  simp only [pay22_apply z g0 g1 g2 g3 x t hg hT]
  exact TopTwo.fold_minsi_eq _ (fun k => k0_pay21 (BitVec.ofNat 32 z.val) g0 g1 g2 g3 x (ix2 t k) = gateRow x rr t i) i (fun k => rfl) (hg i)
    fun k hk => by rw [hg k]; exact (hT.lt k hk).ne

theorem pay24_apply (e : Fin 16) :
    k0_pay24 (BitVec.ofNat 32 z.val) g0 g1 g2 g3 x (ix2 t e) = if e = i then ⊥ else gateRow x rr t e := by
  pointwise [k0_pay24]
  rw [hg, pay23_apply z g0 g1 g2 g3 x t hg hT, TopTwo.select_word]
  rfl

theorem pay25_apply : k0_pay25 (BitVec.ofNat 32 z.val) g0 g1 g2 g3 x (ix1 t) = gateRow x rr t j := by
  pointwise [k0_pay25]
  rw [ofBits_bot, TopTwo.fold_max_eq _ (fun e => if e = i then ⊥ else gateRow x rr t e) j
    fun e => pay24_apply z g0 g1 g2 g3 x t hg hT e]
  · exact if_neg hT.ne
  · intro k
    show (if k = i then ⊥ else gateRow x rr t k) ≤ if j = i then ⊥ else gateRow x rr t j
    rw [if_neg hT.ne]
    split
    · exact bot_le
    · rename_i h; exact hT.le' k h

include hfin in
theorem pay27_apply :
    k0_pay27 (iota .tc S256x16 32 [1] iota_S256x16_d1_w32) (k0_pay24 (BitVec.ofNat 32 z.val) g0 g1 g2 g3 x) (k0_pay25 (BitVec.ofNat 32 z.val) g0 g1 g2 g3 x) (ix2 t 0)
      = BitVec.ofNat 32 j.val := by
  pointwise [k0_pay27, k0_pay26]
  simp only [pay25_apply z g0 g1 g2 g3 x t hg hT]
  refine TopTwo.fold_minsi_eq _ (fun k => k0_pay24 (BitVec.ofNat 32 z.val) g0 g1 g2 g3 x (ix2 t k) = gateRow x rr t j) j (fun k => rfl)
    ((pay24_apply z g0 g1 g2 g3 x t hg hT j).trans (if_neg hT.ne)) fun k hk => ?_
  rw [pay24_apply z g0 g1 g2 g3 x t hg hT k]
  by_cases e : k = i
  · rw [if_pos e]; exact (hfin j).symm
  · rw [if_neg e]; exact (hT.lt' k e hk).ne

theorem pay28_apply :
    k0_pay28 (k0_pay22 (BitVec.ofNat 32 z.val) g0 g1 g2 g3 x) (k0_pay25 (BitVec.ofNat 32 z.val) g0 g1 g2 g3 x) (ix2 t 0)
      = TopTwo.share (gateRow x rr t i) (gateRow x rr t j) := by
  pointwise [k0_pay28, k0_pay26]
  rw [pay22_apply z g0 g1 g2 g3 x t hg hT, pay25_apply z g0 g1 g2 g3 x t hg hT]
  rfl

theorem pay29_apply :
    k0_pay29 (k0_pay22 (BitVec.ofNat 32 z.val) g0 g1 g2 g3 x) (k0_pay25 (BitVec.ofNat 32 z.val) g0 g1 g2 g3 x) (ix2 t 0)
      = 1 - TopTwo.share (gateRow x rr t i) (gateRow x rr t j) := by
  pointwise [k0_pay29]
  rw [pay28_apply z g0 g1 g2 g3 x t hg hT]

end

/-- One expert's output for a token: two layers, the first cut at zero. -/
def expertAt (x : Vec FI S256x1024 .f32) (a : Vec FI S1x1024x2048 .bf16) (b : Vec FI S1x2048x1024 .bf16) (t : Fin 256)
    (n : Fin 1024) : EReal :=
  ∑ f : Fin 2048, max (∑ d : Fin 1024, x (ix2 t d) * a (ix3 0 d f)) 0 * b (ix3 0 f n)

/-- The partial sum at an index: the four experts of block `z` by their weights. -/
theorem partialSum_apply (z : Fin 4) (g0 g1 g2 g3 : Vec FI S1x1024x4 .f32) (x : Vec FI S256x1024 .f32) (t : Fin 256)
    (n : Fin 1024) {rr : Fin 1024 → Fin 16 → EReal} {i j : Fin 16}
    (hg : ∀ e, k0_pay21 (BitVec.ofNat 32 z.val) g0 g1 g2 g3 x (ix2 t e) = gateRow x rr t e)
    (hT : TopTwo.IsTop (gateRow x rr t) i j) (hfin : ∀ e, gateRow x rr t e ≠ ⊥)
    (a b : (k : Fin 4) → _) :
    partialSum (F := FI) (BitVec.ofNat 32 z.val) g0 g1 g2 g3 x (a 0) (b 0) (a 1) (b 1) (a 2) (b 2) (a 3) (b 3) (ix2 t n)
      = ∑ k : Fin 4, TopTwo.weight (gateRow x rr t) i j ⟨4 * z.val + k.val, by omega⟩ * expertAt x (a k) (b k) t n := by
  have w0 : ∀ (p : Fin 16) (u v : EReal), Scalar.select (IntOp.cmpi CmpIPredicate.eq (BitVec.ofNat 32 p.val)
      (Scalar.addi (Scalar.muli (BitVec.ofNat 32 z.val) 4#32) 0#32)) u v = _ := select_expert z 0
  have w1 : ∀ (p : Fin 16) (u v : EReal), Scalar.select (IntOp.cmpi CmpIPredicate.eq (BitVec.ofNat 32 p.val)
      (Scalar.addi (Scalar.muli (BitVec.ofNat 32 z.val) 4#32) 1#32)) u v = _ := select_expert z 1
  have w2 : ∀ (p : Fin 16) (u v : EReal), Scalar.select (IntOp.cmpi CmpIPredicate.eq (BitVec.ofNat 32 p.val)
      (Scalar.addi (Scalar.muli (BitVec.ofNat 32 z.val) 4#32) 2#32)) u v = _ := select_expert z 2
  have w3 : ∀ (p : Fin 16) (u v : EReal), Scalar.select (IntOp.cmpi CmpIPredicate.eq (BitVec.ofNat 32 p.val)
      (Scalar.addi (Scalar.muli (BitVec.ofNat 32 z.val) 4#32) 3#32)) u v = _ := select_expert z 3
  have p23 := pay23_apply z g0 g1 g2 g3 x t hg hT
  have p27 := pay27_apply z g0 g1 g2 g3 x t hg hT hfin
  have p28 := pay28_apply z g0 g1 g2 g3 x t hg hT
  have p29 := pay29_apply z g0 g1 g2 g3 x t hg hT
  pointwise [partialSum, k0_pay36, k0_pay32, k0_pay31, k0_pay33, k0_pay34, k0_pay35, k0_pay30]
  simp only [p23, p27, p28, p29, w0, w1, w2, w3]
  rw [Fin.sum_univ_four]
  rfl

end Cert.KernelIdealProof
-- ==== Proof.RefValue.lean ====
/-
# The reference's result at an index

Each stage of the reference read at an index: the router's rows, the softmax of the two largest entries, the weight of
each expert, the experts' layers and the weighted sum.
-/
module

public import proofs.«01_k».proof.Proof.TopTwo
public import proofs.«01_k».proof.Proof.Reference
public import Idealize.ShloMosaic.PureOps.Ideal

@[expose] public section
noncomputable section
namespace Cert.ReferenceProof
open Cert.ReferenceIdeal Cert.ReferenceIdeal.Gen
open Idealize.ShloMosaic

theorem gate_apply (x : FVec Ideal S1024x1024 .f32) (r : FVec Ideal S1024x16 .f32) (t : Fin 1024) (e : Fin 16) :
    gate x r (ix2 t e) = ∑ d : Fin 1024, x (ix2 t d) * r (ix2 d e) := by
  pointwise [gate]

/-- The softmax of a row of two reals, the larger first. -/
theorem soft_apply (v : FVec Ideal S1024x2 .f32) (t : Fin 1024) (a b : ℝ) (h0 : v (ix2 t 0) = (a : EReal))
    (h1 : v (ix2 t 1) = (b : EReal)) (hba : b ≤ a) :
    soft v (ix2 t 0) = TopTwo.share a b ∧ soft v (ix2 t 1) = 1 - TopTwo.share a b := by
  have hm : Finset.fold max (Ideal.ofBits FTy.f32 4286578688#32) (fun x : Fin 2 => v (ix2 t x)) Finset.univ = (a : EReal) := by
    have hbot : Ideal.ofBits .f32 0xFF800000#32 = ⊥ := by simp [Ideal.ofBits, Ideal.ieee]
    rw [hbot]
    refine le_antisymm ((Finset.fold_max_le _).mpr ⟨bot_le, fun k _ => ?_⟩)
      ((Finset.le_fold_max _).mpr (.inr ⟨0, Finset.mem_univ _, h0.ge⟩))
    fin_cases k
    · exact h0.le
    · exact h1.le.trans (EReal.coe_le_coe_iff.mpr hba)
  constructor
  · pointwise [soft, exps]
    rw [hm, Fin.sum_univ_two, h0, h1]
    exact TopTwo.softmax_fst a b
  · pointwise [soft, exps]
    rw [hm, Fin.sum_univ_two, h0, h1]
    exact TopTwo.softmax_snd a b

theorem hidden_apply (x : FVec Ideal S1024x1024 .f32) (w1 : FVec Ideal S16x1024x2048 .f32) (e : Fin 16) (t : Fin 1024) (f : Fin 2048) :
    hidden x w1 (ix3 e t f) = max (∑ d : Fin 1024, w1 (ix3 e d f) * x (ix2 t d)) 0 := by
  pointwise [hidden]

theorem experts_apply (x : FVec Ideal S1024x1024 .f32) (w1 : FVec Ideal S16x1024x2048 .f32) (w2 : FVec Ideal S16x2048x1024 .f32)
    (e : Fin 16) (t n : Fin 1024) :
    experts x w1 w2 (ix3 e t n) = ∑ f : Fin 2048, hidden x w1 (ix3 e t f) * w2 (ix3 e f n) := by
  pointwise [experts]

theorem out_apply (x : FVec Ideal S1024x1024 .f32) (r : FVec Ideal S1024x16 .f32) (w1 : FVec Ideal S16x1024x2048 .f32)
    (w2 : FVec Ideal S16x2048x1024 .f32) (t n : Fin 1024) :
    out x r w1 w2 (ix2 t n) = ∑ e : Fin 16, weights (gate x r) (ix2 t e) * experts x w1 w2 (ix3 e t n) := by
  pointwise [out]

/-- The sort that gives the two largest entries of a row and their places. -/
theorem top_apply (g : FVec Ideal S1024x16 .f32) (t : Fin 1024) (k : Fin 2) :
    tops g (ix2 t k) = g (ix2 t (sortedFrom (TopTwo.before fun e => g (ix2 t e)) ⟨k.val, by omega⟩))
      ∧ places g (ix2 t k) = BitVec.ofNat 32 (sortedFrom (TopTwo.before fun e => g (ix2 t e)) ⟨k.val, by omega⟩).val := by
  have ha : ∀ (l : Fin 16) (p : Fin 16), ((ix2 t l : S1024x16.Idx).along 1 p) = ix2 t p := by
    intro l p; funext a; fin_cases a <;> rfl
  have hB : (fun k k' : Fin 16 => FloatOps.cmpfTotal (F := Ideal) (φ := .f32) CmpDirection.gt (g (ix2 t k)) (g (ix2 t k')) == 1#1)
      = TopTwo.before fun e => g (ix2 t e) := by
    funext k k'
    exact TopTwo.cmp_gt _ _
  constructor
  · simp only [tops, Host.topK, Host.sort2_eq_sortBy]
    unfold Host.sortBy
    pointwise
    simp only [ha, hB]
  · simp only [places, Host.topK, Host.sort2_eq_sortBy]
    unfold Host.sortBy
    pointwise
    simp only [ha, hB]
    rfl

theorem weights_apply (g : FVec Ideal S1024x16 .f32) (t : Fin 1024) (i j : Fin 16)
    (h : TopTwo.IsTop (fun e => g (ix2 t e)) i j) (hfin : ∀ e, ∃ r : ℝ, g (ix2 t e) = (r : EReal)) (e : Fin 16) :
    weights g (ix2 t e) = TopTwo.weight (fun e => g (ix2 t e)) i j e := by
  obtain ⟨a, ha⟩ := hfin i
  obtain ⟨b, hb⟩ := hfin j
  obtain ⟨hi, hj⟩ := TopTwo.sortedFrom_eq h
  have t0 := top_apply g t 0
  have t1 := top_apply g t 1
  rw [show (⟨(0 : Fin 2).val, by omega⟩ : Fin 16) = 0 from rfl, hi] at t0
  rw [show (⟨(1 : Fin 2).val, by omega⟩ : Fin 16) = 1 from rfl, hj] at t1
  obtain ⟨s0, s1⟩ := soft_apply (tops g) t a b (t0.1.trans ha) (t1.1.trans hb)
    (EReal.coe_le_coe_iff.mp (ha ▸ hb ▸ h.le j))
  pointwise [weights, chosen]
  rw [Fin.sum_univ_two, t0.2, t1.2, s0, s1, TopTwo.select_word, TopTwo.select_word]
  simp only [TopTwo.weight, ha, hb]

end Cert.ReferenceProof
-- ==== Proof.Equation.lean ====
/-
# What a device ends with

The partial sum that a device computes, at an index, is the reference's sum restricted to the device's four experts;
the four partial sums of a token block are added, and the four groups of experts they cover are all sixteen. So what a
device's result holds is the device's block of the reference's result.
-/
module

public import proofs.«01_k».proof.Proof.KernelValue
public import proofs.«01_k».proof.Proof.RefValue
public import proofs.«01_k».proof.Proof.KernelIdeal.Run
public import Idealize.ShloMosaic.Lib.Pipeline.ValueKit

@[expose] public section

set_option synthInstance.maxSize 4096

noncomputable section

namespace Cert.Proof

open Cert.KernelIdeal Cert.KernelIdeal.Gen Cert.KernelIdealProof
open Idealize.ShloMosaic Idealize.ShloMosaic.TcCoe

local notation "FI" => Idealize.ShloMosaic.Ideal

variable (m : (ℓ : Loc nD τ sig) → Buf (Elt FI) ℓ)

/-- The tokens a device reads are its first argument, -/
theorem xs_eq (c : Dev nD) : xs m c = (m ((c.tc : Thread nD τ).loc main_arg0) : S256x1024.Idx → EReal) := by
  funext y
  refine congrArg (m ((c.tc : Thread nD τ).loc main_arg0) : S256x1024.Idx → EReal) (funext fun a => Fin.ext ?_)
  blk_simp
  show 0 * win0_0.size a + (y a).val = (y a).val; omega

/-- and its columns of the router its second. -/
theorem rs_eq (c : Dev nD) : rs m c = (m ((c.tc : Thread nD τ).loc main_arg1) : S1024x4.Idx → EReal) := by
  funext y
  refine congrArg (m ((c.tc : Thread nD τ).loc main_arg1) : S1024x4.Idx → EReal) (funext fun a => Fin.ext ?_)
  blk_simp
  show 0 * win0_1.size a + (y a).val = (y a).val; omega

/-- A router block in its slot of the gathered router. -/
theorem lift4_eq (X : Vec FI S1024x4 .f32) (d : Fin 1024) (l : Fin 4) : lift4 X (ix3 0 d l) = X (ix2 d l) := by
  unfold lift4
  pointwise

/-- The first weights of a device's expert `k` are the `k`-th of its third argument, -/
theorem e1_eq (c : Dev nD) (k : Fin 4) (h : ∀ a, (![k.val, 0, 0] : Fin 3 → ℕ) a + S1x1024x2048.size a ≤ S4x1024x2048.size a)
    (d : Fin 1024) (f : Fin 2048) :
    e1 m c ![k.val, 0, 0] h (ix3 0 d f) = (m ((c.tc : Thread nD τ).loc main_arg2) : S4x1024x2048.Idx → EReal) (ix3 k d f) := by
  refine congrArg (m ((c.tc : Thread nD τ).loc main_arg2) : S4x1024x2048.Idx → EReal) (funext fun a => Fin.ext ?_)
  fin_cases a
  · rfl
  · show 0 + 1 * d.val = d.val; omega
  · show 0 + 1 * f.val = f.val; omega

/-- and the second weights that of its fourth. -/
theorem e2_eq (c : Dev nD) (k : Fin 4) (h : ∀ a, (![k.val, 0, 0] : Fin 3 → ℕ) a + S1x2048x1024.size a ≤ S4x2048x1024.size a)
    (f : Fin 2048) (n : Fin 1024) :
    e2 m c ![k.val, 0, 0] h (ix3 0 f n) = (m ((c.tc : Thread nD τ).loc main_arg3) : S4x2048x1024.Idx → EReal) (ix3 k f n) := by
  refine congrArg (m ((c.tc : Thread nD τ).loc main_arg3) : S4x2048x1024.Idx → EReal) (funext fun a => Fin.ext ?_)
  fin_cases a
  · rfl
  · show 0 + 1 * f.val = f.val; omega
  · show 0 + 1 * n.val = n.val; omega

/-- The result array ends holding `outAt`. -/
theorem outArr_eq (c : Dev nD) :
    ((dats m 0 c).arrAt 2 cfg0.N : S256x1024.Idx → EReal) = outAt m c := by
  refine (dats m 0 c).arrAt_eq_of_covers 2 _ (by decide +kernel) fun t hf y => ?_
  blk_simp
  show outAt m c y = outAt m c ((win0_2.blk t).view.emb y)
  refine congrArg (outAt m c) (funext fun a => Fin.ext ?_)
  blk_simp
  show (y a).val = 0 * win0_2.size a + (y a).val; omega

/-- A device's number along `z`, as the kernel computes it. -/
theorem wz_eq (c : Dev nD) : wz c = BitVec.ofNat 32 (c.val % 4) := by
  revert c; decide +kernel

/-- The device that returns a partial sum is the one to which the tokens went. -/
theorem fwd_bwd (c : Dev nD) : fwd (bwd c) = c := by
  revert c; decide +kernel

/-- The block of experts of the device that computes each of the four partial sums of a device's tokens. -/
def σ (c : Dev nD) : Fin 4 → Fin 4 :=
  ![⟨(bwd c).val % 4, by omega⟩, ⟨(bwd (xp c)).val % 4, by omega⟩,
    ⟨(bwd (yp c)).val % 4, by omega⟩, ⟨(bwd (xp (yp c))).val % 4, by omega⟩]

/-- The four devices hold the four blocks of experts. -/
theorem σ_bijective (c : Dev nD) : Function.Bijective (σ c) := by
  revert c; decide +kernel

/-- A sum over the sixteen experts, by blocks of four. -/
theorem sum_sixteen (f : Fin 16 → EReal) : ∑ e, f e = ∑ z : Fin 4, ∑ k : Fin 4, f ⟨4 * z.val + k.val, by omega⟩ := by
  rw [← (finProdFinEquiv (m := 4) (n := 4)).sum_comp f, Fintype.sum_prod_type]
  refine Finset.sum_congr rfl fun z _ => Finset.sum_congr rfl fun k _ => congrArg f (Fin.ext ?_)
  simp only [finProdFinEquiv_apply_val]
  omega

/-- A device's block along an axis cut over `z`. -/
theorem meshLin_eq (c : Dev nD) : Layout.meshLin [2, 2, 4] c.val [2] = c.val % 4 := by
  revert c; decide

/-! ## A device's blocks of the whole arrays -/

/-- A device's tokens, in the whole array; -/
theorem block_x (X : (⟨2, ![1024, 1024]⟩ : Shape).Idx → EReal) (c : Dev nD) (t : Fin 256) (d : Fin 1024) :
    Layout.blockN ⟨2, ![256, 1024]⟩ ⟨2, ![1024, 1024]⟩ (Layout.meshBlock [2, 2, 4] ![[2], []] c) X (by decide) (ix2 t d)
      = X (ix2 ⟨c.val % 4 * 256 + t.val, by omega⟩ d) := by
  rw [Layout.blockN_apply]
  refine congrArg X (funext fun a => Fin.ext ?_)
  rw [Layout.TilesN.idx_val]
  fin_cases a
  · show Layout.meshLin [2, 2, 4] c.val [2] * 256 + t.val = _
    rw [meshLin_eq]; rfl
  · show 0 * 1024 + d.val = d.val
    omega

/-- its columns of the router; -/
theorem block_r (R : (⟨2, ![1024, 16]⟩ : Shape).Idx → EReal) (c : Dev nD) (d : Fin 1024) (l : Fin 4) :
    Layout.blockN ⟨2, ![1024, 4]⟩ ⟨2, ![1024, 16]⟩ (Layout.meshBlock [2, 2, 4] ![[], [2]] c) R (by decide) (ix2 d l)
      = R (ix2 d ⟨4 * (c.val % 4) + l.val, by omega⟩) := by
  rw [Layout.blockN_apply]
  refine congrArg R (funext fun a => Fin.ext ?_)
  rw [Layout.TilesN.idx_val]
  fin_cases a
  · show 0 * 1024 + d.val = d.val
    omega
  · show Layout.meshLin [2, 2, 4] c.val [2] * 4 + l.val = 4 * (c.val % 4) + l.val
    rw [meshLin_eq]; omega

/-- its experts' first weights; -/
theorem block_w1 (A : (⟨3, ![16, 1024, 2048]⟩ : Shape).Idx → EReal) (c : Dev nD) (k : Fin 4) (d : Fin 1024) (f : Fin 2048) :
    Layout.blockN ⟨3, ![4, 1024, 2048]⟩ ⟨3, ![16, 1024, 2048]⟩ (Layout.meshBlock [2, 2, 4] ![[2], [], []] c) A (by decide) (ix3 k d f)
      = A (ix3 ⟨4 * (c.val % 4) + k.val, by omega⟩ d f) := by
  rw [Layout.blockN_apply]
  refine congrArg A (funext fun a => Fin.ext ?_)
  rw [Layout.TilesN.idx_val]
  fin_cases a
  · show Layout.meshLin [2, 2, 4] c.val [2] * 4 + k.val = 4 * (c.val % 4) + k.val
    rw [meshLin_eq]; omega
  · show 0 * 1024 + d.val = d.val
    omega
  · show 0 * 2048 + f.val = f.val
    omega

/-- and their second weights. -/
theorem block_w2 (A : (⟨3, ![16, 2048, 1024]⟩ : Shape).Idx → EReal) (c : Dev nD) (k : Fin 4) (f : Fin 2048) (n : Fin 1024) :
    Layout.blockN ⟨3, ![4, 2048, 1024]⟩ ⟨3, ![16, 2048, 1024]⟩ (Layout.meshBlock [2, 2, 4] ![[2], [], []] c) A (by decide) (ix3 k f n)
      = A (ix3 ⟨4 * (c.val % 4) + k.val, by omega⟩ f n) := by
  rw [Layout.blockN_apply]
  refine congrArg A (funext fun a => Fin.ext ?_)
  rw [Layout.TilesN.idx_val]
  fin_cases a
  · show Layout.meshLin [2, 2, 4] c.val [2] * 4 + k.val = 4 * (c.val % 4) + k.val
    rw [meshLin_eq]; omega
  · show 0 * 2048 + f.val = f.val
    omega
  · show 0 * 1024 + n.val = n.val
    omega

/-! ## The equation -/

section
variable (X : (⟨2, ![1024, 1024]⟩ : Shape).Idx → EReal) (R : (⟨2, ![1024, 16]⟩ : Shape).Idx → EReal)
  (A : (⟨3, ![16, 1024, 2048]⟩ : Shape).Idx → EReal) (B : (⟨3, ![16, 2048, 1024]⟩ : Shape).Idx → EReal)

/-- The devices hold their blocks of four whole arrays. -/
structure Blocks : Prop where
  x : ∀ c : Dev nD, (m ((c.tc : Thread nD τ).loc main_arg0) : S256x1024.Idx → EReal)
    = Layout.blockN ⟨2, ![256, 1024]⟩ ⟨2, ![1024, 1024]⟩ (Layout.meshBlock [2, 2, 4] ![[2], []] c) X
  r : ∀ c : Dev nD, (m ((c.tc : Thread nD τ).loc main_arg1) : S1024x4.Idx → EReal)
    = Layout.blockN ⟨2, ![1024, 4]⟩ ⟨2, ![1024, 16]⟩ (Layout.meshBlock [2, 2, 4] ![[], [2]] c) R
  w1 : ∀ c : Dev nD, (m ((c.tc : Thread nD τ).loc main_arg2) : S4x1024x2048.Idx → EReal)
    = Layout.blockN ⟨3, ![4, 1024, 2048]⟩ ⟨3, ![16, 1024, 2048]⟩ (Layout.meshBlock [2, 2, 4] ![[2], [], []] c) A
  w2 : ∀ c : Dev nD, (m ((c.tc : Thread nD τ).loc main_arg3) : S4x2048x1024.Idx → EReal)
    = Layout.blockN ⟨3, ![4, 2048, 1024]⟩ ⟨3, ![16, 2048, 1024]⟩ (Layout.meshBlock [2, 2, 4] ![[2], [], []] c) B

/-- A sum of products of reals is a real. -/
theorem sum_real {n : ℕ} (f g : Fin n → EReal) (hf : ∀ d, ∃ a : ℝ, f d = a) (hg : ∀ d, ∃ a : ℝ, g d = a) :
    ∃ a : ℝ, ∑ d, f d * g d = (a : EReal) := by
  choose a ha using hf
  choose b hb using hg
  refine ⟨∑ d, a d * b d, ?_⟩
  rw [show ((∑ d, a d * b d : ℝ) : EReal) = ∑ d, ((a d * b d : ℝ) : EReal) from
    map_sum (⟨⟨Real.toEReal, rfl⟩, EReal.coe_add⟩ : ℝ →+ EReal) _ _]
  exact Finset.sum_congr rfl fun d _ => by rw [ha, hb, EReal.coe_mul]

variable {m X R A B} (H : Blocks m X R A B) (hX : ∀ i, ∃ a : ℝ, X i = a) (hR : ∀ i, ∃ a : ℝ, R i = a)
include H hX hR

/-- A token's place among all the tokens. -/
abbrev row (c : Dev nD) (t : Fin 256) : Fin 1024 := ⟨c.val % 4 * 256 + t.val, by omega⟩

/-- The token's row of the router is the reference's. -/
theorem gate_eq (c : Dev nD) (t : Fin 256) :
    gateRow (xs m c) (fun d e => R (ix2 d e)) t = fun e => Cert.ReferenceProof.gate (F := FI) X R (ix2 (row c t) e) := by
  funext e
  rw [Cert.ReferenceProof.gate_apply]
  unfold gateRow
  refine Finset.sum_congr rfl fun d _ => ?_
  rw [xs_eq, H.x, block_x]

/-- The partial sum of the device `c` that computes it, for a token of the device `fwd c`: the reference's weights and
    experts, over the four experts of `c`. -/
theorem psrc_eq (c : Dev nD) (t : Fin 256) (n : Fin 1024) :
    (psrc m c : S256x1024.Idx → EReal) (ix2 t n) = ∑ k : Fin 4,
      Cert.ReferenceProof.weights (F := FI) (Cert.ReferenceProof.gate (F := FI) X R) (ix2 (row (fwd c) t) ⟨4 * (c.val % 4) + k.val, by omega⟩)
        * Cert.ReferenceProof.experts (F := FI) X A B (ix3 ⟨4 * (c.val % 4) + k.val, by omega⟩ (row (fwd c) t) n) := by
  obtain ⟨i, j, hT⟩ := TopTwo.exists_isTop (fun e => Cert.ReferenceProof.gate (F := FI) X R (ix2 (row (fwd c) t) e))
  have hreal : ∀ e, ∃ a : ℝ, Cert.ReferenceProof.gate (F := FI) X R (ix2 (row (fwd c) t) e) = a := by
    intro e
    rw [Cert.ReferenceProof.gate_apply]
    exact sum_real _ _ (fun d => hX _) (fun d => hR _)
  have hrow := gate_eq H hX hR (fwd c) t
  have hg : ∀ e, k0_pay21 (BitVec.ofNat 32 (⟨c.val % 4, by omega⟩ : Fin 4).val) (lift4 (rs m c)) (lift4 (rs m (zp 1 c)))
      (lift4 (rs m (zp 2 c))) (lift4 (rs m (zp 3 c))) (xs m (fwd c)) (ix2 t e)
        = gateRow (xs m (fwd c)) (fun d e => R (ix2 d e)) t e := by
    intro e
    have hz : ∀ k : ℕ, (zp k c).val % 4 = (c.val % 4 + k) % 4 := by intro k; unfold zp; simp only; omega
    refine pay21_apply (rr := fun d e => R (ix2 d e)) _ _ _ _ _ _ _ ?_ ?_ ?_ ?_ e
    · intro d l
      rw [lift4_eq, rs_eq, H.r, block_r]
      congr 2; apply Fin.ext; simp
    · intro d l
      rw [lift4_eq, rs_eq, H.r, block_r]
      congr 2; apply Fin.ext; simp [hz]
    · intro d l
      rw [lift4_eq, rs_eq, H.r, block_r]
      congr 2; apply Fin.ext; simp [hz]
    · intro d l
      rw [lift4_eq, rs_eq, H.r, block_r]
      congr 2; apply Fin.ext; simp [hz]
  have key := partialSum_apply (⟨c.val % 4, by omega⟩ : Fin 4) _ _ _ _ _ t n hg (hrow ▸ hT)
    (fun e => by rw [congrFun hrow e]; obtain ⟨a, ha⟩ := hreal e; rw [ha]; exact EReal.coe_ne_bot a)
    ![e1 m c ![0, 0, 0] inb_S4x1024x2048_S1x1024x2048_0_0_0, e1 m c ![1, 0, 0] inb_S4x1024x2048_S1x1024x2048_1_0_0,
      e1 m c ![2, 0, 0] inb_S4x1024x2048_S1x1024x2048_2_0_0, e1 m c ![3, 0, 0] inb_S4x1024x2048_S1x1024x2048_3_0_0]
    ![e2 m c ![0, 0, 0] inb_S4x2048x1024_S1x2048x1024_0_0_0, e2 m c ![1, 0, 0] inb_S4x2048x1024_S1x2048x1024_1_0_0,
      e2 m c ![2, 0, 0] inb_S4x2048x1024_S1x2048x1024_2_0_0, e2 m c ![3, 0, 0] inb_S4x2048x1024_S1x2048x1024_3_0_0]
  unfold psrc
  rw [wz_eq]
  refine key.trans (Finset.sum_congr rfl fun k _ => ?_)
  rw [Cert.ReferenceProof.weights_apply _ _ i j hT hreal, hrow, Cert.ReferenceProof.experts_apply]
  congr 1
  unfold expertAt
  refine Finset.sum_congr rfl fun f _ => ?_
  rw [Cert.ReferenceProof.hidden_apply]
  have h1 : ∀ d, (![e1 m c ![0, 0, 0] inb_S4x1024x2048_S1x1024x2048_0_0_0, e1 m c ![1, 0, 0] inb_S4x1024x2048_S1x1024x2048_1_0_0,
      e1 m c ![2, 0, 0] inb_S4x1024x2048_S1x1024x2048_2_0_0, e1 m c ![3, 0, 0] inb_S4x1024x2048_S1x1024x2048_3_0_0] : Fin 4 → Vec FI S1x1024x2048 .bf16) k (ix3 0 d f)
      = A (ix3 ⟨4 * (c.val % 4) + k.val, by omega⟩ d f) := by
    intro d
    rw [← block_w1 A c k d f, ← H.w1 c]
    fin_cases k
    · exact e1_eq m c 0 _ d f
    · exact e1_eq m c 1 _ d f
    · exact e1_eq m c 2 _ d f
    · exact e1_eq m c 3 _ d f
  have h2 : (![e2 m c ![0, 0, 0] inb_S4x2048x1024_S1x2048x1024_0_0_0, e2 m c ![1, 0, 0] inb_S4x2048x1024_S1x2048x1024_1_0_0,
      e2 m c ![2, 0, 0] inb_S4x2048x1024_S1x2048x1024_2_0_0, e2 m c ![3, 0, 0] inb_S4x2048x1024_S1x2048x1024_3_0_0] : Fin 4 → Vec FI S1x2048x1024 .bf16) k (ix3 0 f n)
      = B (ix3 ⟨4 * (c.val % 4) + k.val, by omega⟩ f n) := by
    rw [← block_w2 B c k f n, ← H.w2 c]
    fin_cases k
    · exact e2_eq m c 0 _ f n
    · exact e2_eq m c 1 _ f n
    · exact e2_eq m c 2 _ f n
    · exact e2_eq m c 3 _ f n
  rw [h2]
  congr 2
  refine Finset.sum_congr rfl fun d _ => ?_
  rw [h1, xs_eq, H.x, block_x, mul_comm]

/-- What a device ends with: the reference's rows of its tokens. -/
theorem outAt_eq (c : Dev nD) :
    (outAt m c : S256x1024.Idx → EReal)
      = Layout.blockN ⟨2, ![256, 1024]⟩ ⟨2, ![1024, 1024]⟩ (Layout.meshBlock [2, 2, 4] ![[2], []] c)
          (Cert.ReferenceProof.out (F := FI) X R A B : (⟨2, ![1024, 1024]⟩ : Shape).Idx → EReal) := by
  funext y
  obtain ⟨t, n, rfl⟩ : ∃ (t : Fin 256) (n : Fin 1024), y = ix2 t n :=
    ⟨y 0, y 1, funext fun a => by fin_cases a <;> rfl⟩
  rw [block_x, Cert.ReferenceProof.out_apply, sum_sixteen, ← (σ_bijective c).sum_comp, Fin.sum_univ_four]
  have hy : ∀ c : Dev nD, (yp c).val % 4 = c.val % 4 := by decide
  have hx' : ∀ c : Dev nD, (xp c).val % 4 = c.val % 4 := by decide
  have hrow : ∀ c' : Dev nD, c'.val % 4 = c.val % 4 → row c' t = row c t := by
    intro c' h; apply Fin.ext; simp only [h]
  have hp : ∀ c' : Dev nD, c'.val % 4 = c.val % 4 → (psrc m (bwd c') : S256x1024.Idx → EReal) (ix2 t n) = ∑ k : Fin 4,
      Cert.ReferenceProof.weights (Cert.ReferenceProof.gate (F := FI) X R) (ix2 (row c t) ⟨4 * ((bwd c').val % 4) + k.val, by omega⟩)
        * Cert.ReferenceProof.experts (F := FI) X A B (ix3 ⟨4 * ((bwd c').val % 4) + k.val, by omega⟩ (row c t) n) :=
    fun c' h => by
      have := psrc_eq H hX hR (bwd c') t n
      rw [fwd_bwd, hrow c' h] at this
      exact this
  unfold outAt sxy prc
  pointwise [k0_pay40, k0_pay38, k0_pay39]
  rw [hp c rfl, hp (xp c) (hx' c), hp (yp c) (hy c), hp (xp (yp c)) ((hx' _).trans (hy c))]
  rw [← add_assoc]
  rfl

end

end Cert.Proof
-- ==== Proof.Algebraic.lean ====
/-
# The kernel computes the reference

On finite tokens and router, what the kernel leaves on each device is the device's block of the reference's result.
-/
module

public import proofs.«01_k».proof.Proof.Equation
public import proofs.«01_k».proof.Proof.Facts

@[expose] public section

set_option synthInstance.maxSize 4096

noncomputable section

namespace Cert.Proof

open Cert.KernelIdeal Cert.KernelIdeal.Gen Cert.KernelIdealProof
open Idealize.ShloMosaic Idealize.ShloMosaic.TcCoe
open Idealize.SL.Sem

/-- An extended real whose absolute value is below infinity is a real. -/
theorem real_of_lt (x : EReal) (h : Ideal.cmp .olt (max x (-x)) ⊤ = 1#1) : ∃ a : ℝ, x = (a : EReal) := by
  induction x using EReal.rec with
  | coe a => exact ⟨a, rfl⟩
  | bot => exfalso; revert h; simp [Ideal.cmp]
  | top => exfalso; revert h; simp [Ideal.cmp]

/-- The bound of the precondition is infinity. -/
theorem infinity : Ideal.ofBits FTy.f32 0x7F800000#32 = ⊤ := by
  simp [Ideal.ofBits, Ideal.ieee]

variable {m : (ℓ : Loc nD τ sig) → Buf (Elt Ideal) ℓ} (h : Cert.Pre_KernelIdeal_tame_KernelIdeal m)
include h

/-- The tokens of a device are reals, -/
theorem tokens_real (c : Dev nD) (i : S256x1024.Idx) :
    ∃ a : ℝ, (m ((c.tc : Thread nD τ).loc main_arg0) : S256x1024.Idx → EReal) i = (a : EReal) := by
  refine real_of_lt _ ?_
  rw [← infinity]
  exact congrFun (h c).1 i

/-- and so is its router. -/
theorem router_real (c : Dev nD) (i : S1024x4.Idx) :
    ∃ a : ℝ, (m ((c.tc : Thread nD τ).loc main_arg1) : S1024x4.Idx → EReal) i = (a : EReal) := by
  refine real_of_lt _ ?_
  rw [← infinity]
  exact congrFun (h c).2 i

variable {X : (⟨2, ![1024, 1024]⟩ : Shape).Idx → EReal} {R : (⟨2, ![1024, 16]⟩ : Shape).Idx → EReal}
  {A : (⟨3, ![16, 1024, 2048]⟩ : Shape).Idx → EReal} {B : (⟨3, ![16, 2048, 1024]⟩ : Shape).Idx → EReal}

/-- Every token lies in some device's block, -/
theorem all_tokens_real (H : Blocks m X R A B) (i : (⟨2, ![1024, 1024]⟩ : Shape).Idx) : ∃ a : ℝ, X i = a := by
  obtain ⟨t, d, rfl⟩ : ∃ (t : Fin 1024) (d : Fin 1024), i = ix2 t d :=
    ⟨i 0, i 1, funext fun a => by fin_cases a <;> rfl⟩
  have hr := tokens_real h (⟨t.val / 256, by omega⟩ : Fin 16) (ix2 (⟨t.val % 256, by omega⟩ : Fin 256) d)
  rw [H.x, block_x] at hr
  have ht : (⟨(⟨t.val / 256, by omega⟩ : Fin 16).val % 4 * 256 + (⟨t.val % 256, by omega⟩ : Fin 256).val, by simp only; omega⟩ : Fin 1024) = t :=
    Fin.ext (by simp only; omega)
  rw [ht] at hr
  exact hr

/-- and so does every column of the router. -/
theorem all_router_real (H : Blocks m X R A B) (i : (⟨2, ![1024, 16]⟩ : Shape).Idx) : ∃ a : ℝ, R i = a := by
  obtain ⟨d, e, rfl⟩ : ∃ (d : Fin 1024) (e : Fin 16), i = ix2 d e :=
    ⟨i 0, i 1, funext fun a => by fin_cases a <;> rfl⟩
  have hr := router_real h (⟨e.val / 4, by omega⟩ : Fin 16) (ix2 d (⟨e.val % 4, by omega⟩ : Fin 4))
  rw [H.r, block_r] at hr
  have he : (⟨4 * ((⟨e.val / 4, by omega⟩ : Fin 16).val % 4) + (⟨e.val % 4, by omega⟩ : Fin 4).val, by simp only; omega⟩ : Fin 16) = e :=
    Fin.ext (by simp only; omega)
  rw [he] at hr
  exact hr

omit h in
/-- The kernel ends holding, on each device, its block of the reference's result. -/
theorem computes_reference : Cert.algebraic_KernelIdeal_ReferenceIdeal_pre_tame_KernelIdeal := by
  intro m g m' g' h hb
  have H : Blocks m _ _ _ _ := ⟨fun c => (hb c).1, fun c => (hb c).2.1, fun c => (hb c).2.2.1, fun c => (hb c).2.2.2⟩
  refine ⟨Cert.ReferenceProof.out (F := Ideal) _ _ _ _, (θ_run Cert.KernelIdeal.defs _ _).mono (fun r hr c => ⟨?_, args_kept m hr.1 c⟩)
      (Cert.KernelIdealProof.run_main (F := Ideal) m g),
    (θ_run Cert.ReferenceIdeal.defs _ _).mono (fun r hr => hr.1 0) (Cert.ReferenceProof.run_main (F := Ideal) m' g')⟩
  exact ((hr.1 c).1 2).trans ((outArr_eq m c).trans (outAt_eq H (all_tokens_real h H) (all_router_real h H) c))

end Cert.Proof

end
-- ==== Proof.lean ====
/-
# The certificate

The claims of `Defs.lean`, each proved in its module.
-/
module

public import proofs.«01_k».proof.Defs
public import proofs.«01_k».proof.Proof.Facts
public import proofs.«01_k».proof.Proof.Algebraic

@[expose] public section

noncomputable section

namespace Cert.Proof

/-- A frame that holds on every memory holds on those of which `tame` holds. -/
theorem frame_ideal_tame : Cert.quiescent_KernelIdeal_pre_tame_KernelIdeal := fun m g _ => frame_ideal m g trivial

/-- The same for the reference. -/
theorem frame_reference_tame : Cert.quiescent_ReferenceIdeal_pre_tame_ReferenceIdeal := fun m g _ => frame_reference m g trivial

theorem claim : Cert.Claim :=
  ⟨Cert.Kernel.Gen.facts, Cert.KernelIdeal.Gen.facts, Cert.ReferenceIdeal.Gen.facts, tame_blocks, tame_whole,
    frame_kernel, frame_ideal, frame_ideal_tame, frame_reference, frame_reference_tame, mask_preserves,
    computes_reference⟩

end Cert.Proof

end
